-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "rest" .f32 0x3F4CCCCD#32 ((4 / 5 : ℝ) : EReal)
  ∧ IdealRules.named_const.Statement Cert.KernelIdeal.κ "slope" .f32 0x3E4CCCCD#32 ((1 / 5 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x256 : Shape := ⟨2, ![1024, 256]⟩
abbrev S256x64 : Shape := ⟨2, ![256, 64]⟩
abbrev S64 : Shape := ⟨1, ![64]⟩
abbrev S64x256 : Shape := ⟨2, ![64, 256]⟩
abbrev S4x64 : Shape := ⟨2, ![4, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S1024x64 : Shape := ⟨2, ![1024, 64]⟩
abbrev S1x64 : Shape := ⟨2, ![1, 64]⟩
abbrev S_ : Shape := ⟨0, ![]⟩
abbrev S64x4x64 : Shape := ⟨3, ![64, 4, 64]⟩
abbrev S1024x4x64 : Shape := ⟨3, ![1024, 4, 64]⟩
abbrev S1x4x64 : Shape := ⟨3, ![1, 4, 64]⟩
abbrev S1024x4 : Shape := ⟨2, ![1024, 4]⟩
abbrev S1024x1x4 : Shape := ⟨3, ![1024, 1, 4]⟩
abbrev S1x1024x4 : Shape := ⟨3, ![1, 1024, 4]⟩
abbrev S1024x1024x4 : Shape := ⟨3, ![1024, 1024, 4]⟩
abbrev S4 : Shape := ⟨1, ![4]⟩
abbrev S1x4 : Shape := ⟨2, ![1, 4]⟩

class Facts : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  shapeCasts_S64x256_S64x4x64 : S64x256.ShapeCasts S64x4x64
  bcast_S4x64_S1x4x64_1_2 : S4x64.BroadcastsInDim S1x4x64 (![1, 2] : Fin 2 → Fin S1x4x64.rank)
  bcast_S1x4x64_S1024x4x64_0_1_2 : S1x4x64.BroadcastsInDim S1024x4x64 (![0, 1, 2] : Fin 3 → Fin S1024x4x64.rank)
  reducesTo_S1024x4x64_S1024x4_d2 : S1024x4x64.ReducesTo [2] S1024x4
  h_S_ : 0 < S_.numel
  bcast_S1024x4_S1024x1x4_0_2 : S1024x4.BroadcastsInDim S1024x1x4 (![0, 2] : Fin 2 → Fin S1024x1x4.rank)
  bcast_S1024x4_S1x1024x4_1_2 : S1024x4.BroadcastsInDim S1x1024x4 (![1, 2] : Fin 2 → Fin S1x1024x4.rank)
  bcast_S1024x1x4_S1024x1024x4_0_1_2 : S1024x1x4.BroadcastsInDim S1024x1024x4 (![0, 1, 2] : Fin 3 → Fin S1024x1024x4.rank)
  bcast_S1x1024x4_S1024x1024x4_0_1_2 : S1x1024x4.BroadcastsInDim S1024x1024x4 (![0, 1, 2] : Fin 3 → Fin S1024x1024x4.rank)
  bcast_S_S1024x1024x4 : S_.BroadcastsInDim S1024x1024x4 (![] : Fin 0 → Fin S1024x1024x4.rank)
  reducesTo_S1024x1024x4_S1024x4_d0 : S1024x1024x4.ReducesTo [0] S1024x4
  reducesTo_S1024x4_S4_d0 : S1024x4.ReducesTo [0] S4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  bcast_S_S1024x4 : S_.BroadcastsInDim S1024x4 (![] : Fin 0 → Fin S1024x4.rank)
  reducesTo_S1024x4_S_d0_1 : S1024x4.ReducesTo [0, 1] S_
  reducesTo_S1024x64_S_d0_1 : S1024x64.ReducesTo [0, 1] S_
  bcast_S_S64x256 : S_.BroadcastsInDim S64x256 (![] : Fin 0 → Fin S64x256.rank)
  reducesTo_S64x256_S_d0_1 : S64x256.ReducesTo [0, 1] S_
  bcast_S_S4x64 : S_.BroadcastsInDim S4x64 (![] : Fin 0 → Fin S4x64.rank)
  reducesTo_S4x64_S_d0_1 : S4x64.ReducesTo [0, 1] S_
  dot_S1024x256_S256x64_S1024x64_1_0_0_1_n_n_wf : DotDims.WF S1024x256 S256x64 S1024x64 [1] [0] [0] [1] [] []
  dot_S1024x64_S64x4x64_S1024x4x64_1_0_0_12_n_n_wf : DotDims.WF S1024x64 S64x4x64 S1024x4x64 [1] [0] [0] [1, 2] [] []
  dot_S1024x1024x4_S1024x4x64_S1024x64_20_10_1_2_n_n_wf : DotDims.WF S1024x1024x4 S1024x4x64 S1024x64 [2, 0] [1, 0] [1] [2] [] []

variable [Facts]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x4x64_S1024x4x64_1_0_0_12_n_n : DotDims S1024x64 S64x4x64 S1024x4x64 where
  lhsContracting := [1]
  rhsContracting := [0]
  lhsNonContracting := [0]
  rhsNonContracting := [1, 2]
  lhsBatch := []
  rhsBatch := []
  wf := dot_S1024x64_S64x4x64_S1024x4x64_1_0_0_12_n_n_wf
def dot_S1024x1024x4_S1024x4x64_S1024x64_20_10_1_2_n_n : DotDims S1024x1024x4 S1024x4x64 S1024x64 where
  lhsContracting := [2, 0]
  rhsContracting := [1, 0]
  lhsNonContracting := [1]
  rhsNonContracting := [2]
  lhsBatch := []
  rhsBatch := []
  wf := dot_S1024x1024x4_S1024x4x64_S1024x64_20_10_1_2_n_n_wf
def fn_relu {F : FTy → Type} [FloatOps F] (arg0 : FVec F S1024x64 .f32) : FVec F S1024x64 .f32 :=
  let cst : FVec F S_ .f32 := constant S_ .f32 0x00000000#32
  let v0 : FVec F S1024x64 .f32 := broadcastInDim S1024x64 ![] bcast_S_S1024x64 cst
  let v1 : FVec F S1024x64 .f32 := maximumf arg0 v0
  v1

def fn_where {F : FTy → Type} [FloatOps F] (arg0 : IVec S1024x1024x4 1) (arg1 : FVec F S1024x1024x4 .f32) (arg2 : FVec F S1024x1024x4 .f32) : FVec F S1024x1024x4 .f32 :=
  let v0 : FVec F S1024x1024x4 .f32 := select arg0 arg1 arg2
  v0

def fn_part6 {F : FTy → Type} [FloatOps F] (main_arg9 : FVec F S4x64 .f32) (main_v111 : IVec S_ 1) (main_v112 : FVec F S4x64 .f32) (main_cst_28 : FVec F S_ .f32) : IVec S_ 1 :=
  let main_v113 : FVec F S4x64 .f32 := broadcastInDim S4x64 ![] bcast_S_S4x64 main_cst_28
  let main_v114 : IVec S4x64 1 := cmpf .olt main_v112 main_v113
  let main_c_29 : IVec S_ 1 := constantI S_ 1 1#1
  let main_v115 : IVec S_ 1 := (fun x v => Host.reduce IntOp.andi x v reducesTo_S4x64_S_d0_1 h_S_) main_v114 main_c_29
  let main_v116 : IVec S_ 1 := andi main_v111 main_v115
  let main_v117 : FVec F S4x64 .f32 := Host.absf main_arg9
  let main_cst_30 : FVec F S_ .f32 := constant S_ .f32 0x7F800000#32
  let main_v118 : FVec F S4x64 .f32 := broadcastInDim S4x64 ![] bcast_S_S4x64 main_cst_30
  let main_v119 : IVec S4x64 1 := cmpf .olt main_v117 main_v118
  let main_c_31 : IVec S_ 1 := constantI S_ 1 1#1
  let main_v120 : IVec S_ 1 := (fun x v => Host.reduce IntOp.andi x v reducesTo_S4x64_S_d0_1 h_S_) main_v119 main_c_31
  let main_v121 : IVec S_ 1 := andi main_v116 main_v120
  main_v121

def fn_part5 {F : FTy → Type} [FloatOps F] (main_arg5 : FVec F S4x64 .f32) (main_arg7 : FVec F S64x256 .f32) (main_arg8 : FVec F S4x64 .f32) (main_arg9 : FVec F S4x64 .f32) (main_v36 : FVec F S1024x64 .f32) (main_v91 : IVec S_ 1) (main_v95 : IVec S_ 1) : IVec S_ 1 :=
  let main_v96 : IVec S_ 1 := andi main_v91 main_v95
  let main_v97 : FVec F S4x64 .f32 := Host.absf main_arg5
  let main_cst_22 : FVec F S_ .f32 := constant S_ .f32 0x7F800000#32
  let main_v98 : FVec F S4x64 .f32 := broadcastInDim S4x64 ![] bcast_S_S4x64 main_cst_22
  let main_v99 : IVec S4x64 1 := cmpf .olt main_v97 main_v98
  let main_c_23 : IVec S_ 1 := constantI S_ 1 1#1
  let main_v100 : IVec S_ 1 := (fun x v => Host.reduce IntOp.andi x v reducesTo_S4x64_S_d0_1 h_S_) main_v99 main_c_23
  let main_v101 : IVec S_ 1 := andi main_v96 main_v100
  let main_v102 : FVec F S1024x64 .f32 := Host.absf main_v36
  let main_cst_24 : FVec F S_ .f32 := constant S_ .f32 0x7F800000#32
  let main_v103 : FVec F S1024x64 .f32 := broadcastInDim S1024x64 ![] bcast_S_S1024x64 main_cst_24
  let main_v104 : IVec S1024x64 1 := cmpf .olt main_v102 main_v103
  let main_c_25 : IVec S_ 1 := constantI S_ 1 1#1
  let main_v105 : IVec S_ 1 := (fun x v => Host.reduce IntOp.andi x v reducesTo_S1024x64_S_d0_1 h_S_) main_v104 main_c_25
  let main_v106 : IVec S_ 1 := andi main_v101 main_v105
  let main_v107 : FVec F S64x256 .f32 := Host.absf main_arg7
  let main_cst_26 : FVec F S_ .f32 := constant S_ .f32 0x7F800000#32
  let main_v108 : FVec F S64x256 .f32 := broadcastInDim S64x256 ![] bcast_S_S64x256 main_cst_26
  let main_v109 : IVec S64x256 1 := cmpf .olt main_v107 main_v108
  let main_c_27 : IVec S_ 1 := constantI S_ 1 1#1
  let main_v110 : IVec S_ 1 := (fun x v => Host.reduce IntOp.andi x v reducesTo_S64x256_S_d0_1 h_S_) main_v109 main_c_27
  let main_v111 : IVec S_ 1 := andi main_v106 main_v110
  let main_v112 : FVec F S4x64 .f32 := Host.absf main_arg8
  let main_cst_28 : FVec F S_ .f32 := constant S_ .f32 0x7F800000#32
  fn_part6 (F := F) main_arg9 main_v111 main_v112 main_cst_28

def fn_part4 {F : FTy → Type} [FloatOps F] (main_arg3 : FVec F S64x256 .f32) (main_arg4 : FVec F S4x64 .f32) (main_arg5 : FVec F S4x64 .f32) (main_arg7 : FVec F S64x256 .f32) (main_arg8 : FVec F S4x64 .f32) (main_arg9 : FVec F S4x64 .f32) (main_v4 : FVec F S1024x64 .f32) (main_v36 : FVec F S1024x64 .f32) (main_v58 : IVec S_ 1) (main_v77 : FVec F S1024x4 .f32) (main_v78 : FVec F S1024x4 .f32) : IVec S_ 1 :=
  let main_v79 : IVec S1024x4 1 := cmpf .ole main_v77 main_v78
  let main_c_15 : IVec S_ 1 := constantI S_ 1 1#1
  let main_v80 : IVec S_ 1 := (fun x v => Host.reduce IntOp.andi x v reducesTo_S1024x4_S_d0_1 h_S_) main_v79 main_c_15
  let main_v81 : IVec S_ 1 := andi main_v58 main_v80
  let main_v82 : FVec F S1024x64 .f32 := Host.absf main_v4
  let main_cst_16 : FVec F S_ .f32 := constant S_ .f32 0x7F800000#32
  let main_v83 : FVec F S1024x64 .f32 := broadcastInDim S1024x64 ![] bcast_S_S1024x64 main_cst_16
  let main_v84 : IVec S1024x64 1 := cmpf .olt main_v82 main_v83
  let main_c_17 : IVec S_ 1 := constantI S_ 1 1#1
  let main_v85 : IVec S_ 1 := (fun x v => Host.reduce IntOp.andi x v reducesTo_S1024x64_S_d0_1 h_S_) main_v84 main_c_17
  let main_v86 : IVec S_ 1 := andi main_v81 main_v85
  let main_v87 : FVec F S64x256 .f32 := Host.absf main_arg3
  let main_cst_18 : FVec F S_ .f32 := constant S_ .f32 0x7F800000#32
  let main_v88 : FVec F S64x256 .f32 := broadcastInDim S64x256 ![] bcast_S_S64x256 main_cst_18
  let main_v89 : IVec S64x256 1 := cmpf .olt main_v87 main_v88
  let main_c_19 : IVec S_ 1 := constantI S_ 1 1#1
  let main_v90 : IVec S_ 1 := (fun x v => Host.reduce IntOp.andi x v reducesTo_S64x256_S_d0_1 h_S_) main_v89 main_c_19
  let main_v91 : IVec S_ 1 := andi main_v86 main_v90
  let main_v92 : FVec F S4x64 .f32 := Host.absf main_arg4
  let main_cst_20 : FVec F S_ .f32 := constant S_ .f32 0x7F800000#32
  let main_v93 : FVec F S4x64 .f32 := broadcastInDim S4x64 ![] bcast_S_S4x64 main_cst_20
  let main_v94 : IVec S4x64 1 := cmpf .olt main_v92 main_v93
  let main_c_21 : IVec S_ 1 := constantI S_ 1 1#1
  let main_v95 : IVec S_ 1 := (fun x v => Host.reduce IntOp.andi x v reducesTo_S4x64_S_d0_1 h_S_) main_v94 main_c_21
  fn_part5 (F := F) main_arg5 main_arg7 main_arg8 main_arg9 main_v36 main_v91 main_v95

def fn_part3 {F : FTy → Type} [FloatOps F] (main_arg3 : FVec F S64x256 .f32) (main_arg4 : FVec F S4x64 .f32) (main_arg5 : FVec F S4x64 .f32) (main_arg7 : FVec F S64x256 .f32) (main_arg8 : FVec F S4x64 .f32) (main_arg9 : FVec F S4x64 .f32) (main_v4 : FVec F S1024x64 .f32) (main_v36 : FVec F S1024x64 .f32) (main_v58 : IVec S_ 1) (main_v59 : FVec F S64x4x64 .f32) : IVec S_ 1 :=
  let main_v60 : FVec F S1024x4x64 .f32 := (fun l r => Host.dotGeneral dot_S1024x64_S64x4x64_S1024x4x64_1_0_0_12_n_n none l r) main_v36 main_v59
  let main_v61 : FVec F S1x4x64 .f32 := broadcastInDim S1x4x64 ![1, 2] bcast_S4x64_S1x4x64_1_2 main_arg8
  let main_v62 : FVec F S1024x4x64 .f32 := broadcastInDim S1024x4x64 ![0, 1, 2] bcast_S1x4x64_S1024x4x64_0_1_2 main_v61
  let main_v63 : FVec F S1024x4x64 .f32 := mulf main_v60 main_v62
  let main_cst_10 : FVec F S_ .f32 := constant S_ .f32 0x00000000#32
  let main_v64 : FVec F S1024x4 .f32 := (fun x v => Host.reduceAdd x v reducesTo_S1024x4x64_S1024x4_d2 h_S_) main_v63 main_cst_10
  let main_v65 : FVec F S1x4x64 .f32 := broadcastInDim S1x4x64 ![1, 2] bcast_S4x64_S1x4x64_1_2 main_arg9
  let main_v66 : FVec F S1024x4x64 .f32 := broadcastInDim S1024x4x64 ![0, 1, 2] bcast_S1x4x64_S1024x4x64_0_1_2 main_v65
  let main_v67 : FVec F S1024x4x64 .f32 := mulf main_v60 main_v66
  let main_cst_11 : FVec F S_ .f32 := constant S_ .f32 0x00000000#32
  let main_v68 : FVec F S1024x4 .f32 := (fun x v => Host.reduceAdd x v reducesTo_S1024x4x64_S1024x4_d2 h_S_) main_v67 main_cst_11
  let main_cst_12 : FVec F S_ .f32 := constant S_ .f32 0xFF800000#32
  let main_v69 : FVec F S4 .f32 := (fun x v => Host.reduce FloatOps.maximumf x v reducesTo_S1024x4_S4_d0 h_S_) main_v64 main_cst_12
  let main_v70 : FVec F S1x4 .f32 := broadcastInDim S1x4 ![1] bcast_S4_S1x4_1 main_v69
  let main_cst_13 : FVec F S_ .f32 := constant S_ .f32 0x7F800000#32
  let main_v71 : FVec F S4 .f32 := (fun x v => Host.reduce FloatOps.minimumf x v reducesTo_S1024x4_S4_d0 h_S_) main_v64 main_cst_13
  let main_v72 : FVec F S1x4 .f32 := broadcastInDim S1x4 ![1] bcast_S4_S1x4_1 main_v71
  let main_v73 : FVec F S1024x4 .f32 := broadcastInDim S1024x4 ![0, 1] bcast_S1x4_S1024x4_0_1 main_v70
  let main_v74 : FVec F S1024x4 .f32 := addf main_v68 main_v73
  let main_v75 : FVec F S1x4 .f32 := subf main_v70 main_v72
  let main_v76 : FVec F S1024x4 .f32 := broadcastInDim S1024x4 ![0, 1] bcast_S1x4_S1024x4_0_1 main_v75
  let main_v77 : FVec F S1024x4 .f32 := minimumf main_v74 main_v76
  let main_cst_14 : FVec F S_ .f32 := constant S_ .f32 0x42960000#32
  let main_v78 : FVec F S1024x4 .f32 := broadcastInDim S1024x4 ![] bcast_S_S1024x4 main_cst_14
  fn_part4 (F := F) main_arg3 main_arg4 main_arg5 main_arg7 main_arg8 main_arg9 main_v4 main_v36 main_v58 main_v77 main_v78

def fn_part2 {F : FTy → Type} [FloatOps F] (main_arg3 : FVec F S64x256 .f32) (main_arg4 : FVec F S4x64 .f32) (main_arg5 : FVec F S4x64 .f32) (main_arg7 : FVec F S64x256 .f32) (main_arg8 : FVec F S4x64 .f32) (main_arg9 : FVec F S4x64 .f32) (main_v4 : FVec F S1024x64 .f32) (main_v36 : FVec F S1024x64 .f32) (main_v38 : FVec F S1024x4x64 .f32) (main_v41 : FVec F S1024x4x64 .f32) : IVec S_ 1 :=
  let main_cst_5 : FVec F S_ .f32 := constant S_ .f32 0x00000000#32
  let main_v42 : FVec F S1024x4 .f32 := (fun x v => Host.reduceAdd x v reducesTo_S1024x4x64_S1024x4_d2 h_S_) main_v41 main_cst_5
  let main_v43 : FVec F S1x4x64 .f32 := broadcastInDim S1x4x64 ![1, 2] bcast_S4x64_S1x4x64_1_2 main_arg5
  let main_v44 : FVec F S1024x4x64 .f32 := broadcastInDim S1024x4x64 ![0, 1, 2] bcast_S1x4x64_S1024x4x64_0_1_2 main_v43
  let main_v45 : FVec F S1024x4x64 .f32 := mulf main_v38 main_v44
  let main_cst_6 : FVec F S_ .f32 := constant S_ .f32 0x00000000#32
  let main_v46 : FVec F S1024x4 .f32 := (fun x v => Host.reduceAdd x v reducesTo_S1024x4x64_S1024x4_d2 h_S_) main_v45 main_cst_6
  let main_cst_7 : FVec F S_ .f32 := constant S_ .f32 0xFF800000#32
  let main_v47 : FVec F S4 .f32 := (fun x v => Host.reduce FloatOps.maximumf x v reducesTo_S1024x4_S4_d0 h_S_) main_v42 main_cst_7
  let main_v48 : FVec F S1x4 .f32 := broadcastInDim S1x4 ![1] bcast_S4_S1x4_1 main_v47
  let main_cst_8 : FVec F S_ .f32 := constant S_ .f32 0x7F800000#32
  let main_v49 : FVec F S4 .f32 := (fun x v => Host.reduce FloatOps.minimumf x v reducesTo_S1024x4_S4_d0 h_S_) main_v42 main_cst_8
  let main_v50 : FVec F S1x4 .f32 := broadcastInDim S1x4 ![1] bcast_S4_S1x4_1 main_v49
  let main_v51 : FVec F S1024x4 .f32 := broadcastInDim S1024x4 ![0, 1] bcast_S1x4_S1024x4_0_1 main_v48
  let main_v52 : FVec F S1024x4 .f32 := addf main_v46 main_v51
  let main_v53 : FVec F S1x4 .f32 := subf main_v48 main_v50
  let main_v54 : FVec F S1024x4 .f32 := broadcastInDim S1024x4 ![0, 1] bcast_S1x4_S1024x4_0_1 main_v53
  let main_v55 : FVec F S1024x4 .f32 := minimumf main_v52 main_v54
  let main_cst_9 : FVec F S_ .f32 := constant S_ .f32 0x42960000#32
  let main_v56 : FVec F S1024x4 .f32 := broadcastInDim S1024x4 ![] bcast_S_S1024x4 main_cst_9
  let main_v57 : IVec S1024x4 1 := cmpf .ole main_v55 main_v56
  let main_c : IVec S_ 1 := constantI S_ 1 1#1
  let main_v58 : IVec S_ 1 := (fun x v => Host.reduce IntOp.andi x v reducesTo_S1024x4_S_d0_1 h_S_) main_v57 main_c
  let main_v59 : FVec F S64x4x64 .f32 := shapeCast S64x4x64 main_arg7 shapeCasts_S64x256_S64x4x64
  fn_part3 (F := F) main_arg3 main_arg4 main_arg5 main_arg7 main_arg8 main_arg9 main_v4 main_v36 main_v58 main_v59

def fn_part1 {F : FTy → Type} [FloatOps F] (main_arg3 : FVec F S64x256 .f32) (main_arg4 : FVec F S4x64 .f32) (main_arg5 : FVec F S4x64 .f32) (main_arg6 : FVec F S64 .f32) (main_arg7 : FVec F S64x256 .f32) (main_arg8 : FVec F S4x64 .f32) (main_arg9 : FVec F S4x64 .f32) (main_v4 : FVec F S1024x64 .f32) (main_v6 : FVec F S1024x4x64 .f32) (main_v19 : FVec F S1024x1024x4 .f32) (main_v20 : FVec F S1024x1024x4 .f32) : IVec S_ 1 :=
  let main_v21 : IVec S1024x1024x4 1 := cmpf .oge main_v19 main_v20
  let main_cst_2 : FVec F S_ .f32 := constant S_ .f32 0x40A00000#32
  let main_v22 : FVec F S1024x1024x4 .f32 := broadcastInDim S1024x1024x4 ![] bcast_S_S1024x1024x4 main_cst_2
  let main_v23 : FVec F S1024x1024x4 .f32 := Host.divf main_v19 main_v22
  let main_v24 : FVec F S1024x1024x4 .f32 := fn_where (F := F) main_v21 main_v19 main_v23
  let main_v25 : FVec F S1024x1024x4 .f32 := Host.exp main_v24
  let main_cst_3 : FVec F S_ .f32 := constant S_ .f32 0x00000000#32
  let main_v26 : FVec F S1024x4 .f32 := (fun x v => Host.reduceAdd x v reducesTo_S1024x1024x4_S1024x4_d0 h_S_) main_v25 main_cst_3
  let main_v27 : FVec F S1x1024x4 .f32 := broadcastInDim S1x1024x4 ![1, 2] bcast_S1024x4_S1x1024x4_1_2 main_v26
  let main_v28 : FVec F S1024x1024x4 .f32 := broadcastInDim S1024x1024x4 ![0, 1, 2] bcast_S1x1024x4_S1024x1024x4_0_1_2 main_v27
  let main_v29 : FVec F S1024x1024x4 .f32 := Host.divf main_v25 main_v28
  let main_v30 : FVec F S1024x64 .f32 := (fun l r => Host.dotGeneral dot_S1024x1024x4_S1024x4x64_S1024x64_20_10_1_2_n_n none l r) main_v29 main_v6
  let main_cst_4 : FVec F S_ .f32 := constant S_ .f32 0x40800000#32
  let main_v31 : FVec F S1024x64 .f32 := broadcastInDim S1024x64 ![] bcast_S_S1024x64 main_cst_4
  let main_v32 : FVec F S1024x64 .f32 := Host.divf main_v30 main_v31
  let main_v33 : FVec F S1x64 .f32 := broadcastInDim S1x64 ![1] bcast_S64_S1x64_1 main_arg6
  let main_v34 : FVec F S1024x64 .f32 := broadcastInDim S1024x64 ![0, 1] bcast_S1x64_S1024x64_0_1 main_v33
  let main_v35 : FVec F S1024x64 .f32 := addf main_v32 main_v34
  let main_v36 : FVec F S1024x64 .f32 := fn_relu (F := F) main_v35
  let main_v37 : FVec F S64x4x64 .f32 := shapeCast S64x4x64 main_arg3 shapeCasts_S64x256_S64x4x64
  let main_v38 : FVec F S1024x4x64 .f32 := (fun l r => Host.dotGeneral dot_S1024x64_S64x4x64_S1024x4x64_1_0_0_12_n_n none l r) main_v4 main_v37
  let main_v39 : FVec F S1x4x64 .f32 := broadcastInDim S1x4x64 ![1, 2] bcast_S4x64_S1x4x64_1_2 main_arg4
  let main_v40 : FVec F S1024x4x64 .f32 := broadcastInDim S1024x4x64 ![0, 1, 2] bcast_S1x4x64_S1024x4x64_0_1_2 main_v39
  let main_v41 : FVec F S1024x4x64 .f32 := mulf main_v38 main_v40
  fn_part2 (F := F) main_arg3 main_arg4 main_arg5 main_arg7 main_arg8 main_arg9 main_v4 main_v36 main_v38 main_v41

def fn {F : FTy → Type} [FloatOps F] (main_arg0 : FVec F S1024x256 .f32) (main_arg1 : FVec F S256x64 .f32) (main_arg2 : FVec F S64 .f32) (main_arg3 : FVec F S64x256 .f32) (main_arg4 : FVec F S4x64 .f32) (main_arg5 : FVec F S4x64 .f32) (main_arg6 : FVec F S64 .f32) (main_arg7 : FVec F S64x256 .f32) (main_arg8 : FVec F S4x64 .f32) (main_arg9 : FVec F S4x64 .f32) (main_arg10 : FVec F S64 .f32) (main_arg11 : FVec F S64x2 .f32) (main_arg12 : FVec F S2 .f32) (main_arg13 : FVec F S64x1 .f32) (main_arg14 : FVec F S1 .f32) : IVec S_ 1 :=
  let main_v0 : FVec F S1024x64 .f32 := (fun l r => Host.dotGeneral dot_S1024x256_S256x64_S1024x64_1_0_0_1_n_n none l r) main_arg0 main_arg1
  let main_v1 : FVec F S1x64 .f32 := broadcastInDim S1x64 ![1] bcast_S64_S1x64_1 main_arg2
  let main_v2 : FVec F S1024x64 .f32 := broadcastInDim S1024x64 ![0, 1] bcast_S1x64_S1024x64_0_1 main_v1
  let main_v3 : FVec F S1024x64 .f32 := addf main_v0 main_v2
  let main_v4 : FVec F S1024x64 .f32 := fn_relu (F := F) main_v3
  let main_v5 : FVec F S64x4x64 .f32 := shapeCast S64x4x64 main_arg3 shapeCasts_S64x256_S64x4x64
  let main_v6 : FVec F S1024x4x64 .f32 := (fun l r => Host.dotGeneral dot_S1024x64_S64x4x64_S1024x4x64_1_0_0_12_n_n none l r) main_v4 main_v5
  let main_v7 : FVec F S1x4x64 .f32 := broadcastInDim S1x4x64 ![1, 2] bcast_S4x64_S1x4x64_1_2 main_arg4
  let main_v8 : FVec F S1024x4x64 .f32 := broadcastInDim S1024x4x64 ![0, 1, 2] bcast_S1x4x64_S1024x4x64_0_1_2 main_v7
  let main_v9 : FVec F S1024x4x64 .f32 := mulf main_v6 main_v8
  let main_cst : FVec F S_ .f32 := constant S_ .f32 0x00000000#32
  let main_v10 : FVec F S1024x4 .f32 := (fun x v => Host.reduceAdd x v reducesTo_S1024x4x64_S1024x4_d2 h_S_) main_v9 main_cst
  let main_v11 : FVec F S1x4x64 .f32 := broadcastInDim S1x4x64 ![1, 2] bcast_S4x64_S1x4x64_1_2 main_arg5
  let main_v12 : FVec F S1024x4x64 .f32 := broadcastInDim S1024x4x64 ![0, 1, 2] bcast_S1x4x64_S1024x4x64_0_1_2 main_v11
  let main_v13 : FVec F S1024x4x64 .f32 := mulf main_v6 main_v12
  let main_cst_0 : FVec F S_ .f32 := constant S_ .f32 0x00000000#32
  let main_v14 : FVec F S1024x4 .f32 := (fun x v => Host.reduceAdd x v reducesTo_S1024x4x64_S1024x4_d2 h_S_) main_v13 main_cst_0
  let main_v15 : FVec F S1024x1x4 .f32 := broadcastInDim S1024x1x4 ![0, 2] bcast_S1024x4_S1024x1x4_0_2 main_v10
  let main_v16 : FVec F S1x1024x4 .f32 := broadcastInDim S1x1024x4 ![1, 2] bcast_S1024x4_S1x1024x4_1_2 main_v14
  let main_v17 : FVec F S1024x1024x4 .f32 := broadcastInDim S1024x1024x4 ![0, 1, 2] bcast_S1024x1x4_S1024x1024x4_0_1_2 main_v15
  let main_v18 : FVec F S1024x1024x4 .f32 := broadcastInDim S1024x1024x4 ![0, 1, 2] bcast_S1x1024x4_S1024x1024x4_0_1_2 main_v16
  let main_v19 : FVec F S1024x1024x4 .f32 := addf main_v17 main_v18
  let main_cst_1 : FVec F S_ .f32 := constant S_ .f32 0x00000000#32
  let main_v20 : FVec F S1024x1024x4 .f32 := broadcastInDim S1024x1024x4 ![] bcast_S_S1024x1024x4 main_cst_1
  fn_part1 (F := F) main_arg3 main_arg4 main_arg5 main_arg6 main_arg7 main_arg8 main_arg9 main_v4 main_v6 main_v19 main_v20
-- ==== Kernel.lean ====
abbrev S1024x256 : Shape := ⟨2, ![1024, 256]⟩
abbrev S256x64 : Shape := ⟨2, ![256, 64]⟩
abbrev S64 : Shape := ⟨1, ![64]⟩
abbrev S64x256 : Shape := ⟨2, ![64, 256]⟩
abbrev S4x64 : Shape := ⟨2, ![4, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S1024x2 : Shape := ⟨2, ![1024, 2]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩
abbrev S64x64 : Shape := ⟨2, ![64, 64]⟩
abbrev S1024x4 : Shape := ⟨2, ![1024, 4]⟩
abbrev S4x1024 : Shape := ⟨2, ![4, 1024]⟩
abbrev S4 : Shape := ⟨1, ![4]⟩
abbrev S4x1 : Shape := ⟨2, ![4, 1]⟩
abbrev S1x1024 : Shape := ⟨2, ![1, 1024]⟩
abbrev S1x1 : Shape := ⟨2, ![1, 1]⟩
abbrev S1x4 : Shape := ⟨2, ![1, 4]⟩
abbrev S1024x65 : Shape := ⟨2, ![1024, 65]⟩
abbrev S1024x1024 : Shape := ⟨2, ![1024, 1024]⟩
abbrev S64x3 : Shape := ⟨2, ![64, 3]⟩
abbrev S3 : Shape := ⟨1, ![3]⟩
abbrev S1024x3 : Shape := ⟨2, ![1024, 3]⟩
abbrev S1x3 : Shape := ⟨2, ![1, 3]⟩

abbrev nBuf : Space → Nat
  | .hbm => 17
  | .vmem => 17
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S64, .f32⟩
  | .hbm, ⟨3, _⟩ => ⟨S64x256, .f32⟩
  | .hbm, ⟨4, _⟩ => ⟨S4x64, .f32⟩
  | .hbm, ⟨5, _⟩ => ⟨S4x64, .f32⟩
  | .hbm, ⟨6, _⟩ => ⟨S64, .f32⟩
  | .hbm, ⟨7, _⟩ => ⟨S64x256, .f32⟩
  | .hbm, ⟨8, _⟩ => ⟨S4x64, .f32⟩
  | .hbm, ⟨9, _⟩ => ⟨S4x64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S64x1, .f32⟩
  | .hbm, ⟨14, _⟩ => ⟨S1, .f32⟩
  | .hbm, ⟨15, _⟩ => ⟨S1024x2, .f32⟩
  | .hbm, ⟨16, _⟩ => ⟨S1024, .f32⟩
  | .local _ .vmem, ⟨0, _⟩ => ⟨S1024x256, .f32⟩
  | .local _ .vmem, ⟨1, _⟩ => ⟨S256x64, .f32⟩
  | .local _ .vmem, ⟨2, _⟩ => ⟨S64, .f32⟩
  | .local _ .vmem, ⟨3, _⟩ => ⟨S64x256, .f32⟩
  | .local _ .vmem, ⟨4, _⟩ => ⟨S4x64, .f32⟩
  | .local _ .vmem, ⟨5, _⟩ => ⟨S4x64, .f32⟩
  | .local _ .vmem, ⟨6, _⟩ => ⟨S64, .f32⟩
  | .local _ .vmem, ⟨7, _⟩ => ⟨S64x256, .f32⟩
  | .local _ .vmem, ⟨8, _⟩ => ⟨S4x64, .f32⟩
  | .local _ .vmem, ⟨9, _⟩ => ⟨S4x64, .f32⟩
  | .local _ .vmem, ⟨10, _⟩ => ⟨S64, .f32⟩
  | .local _ .vmem, ⟨11, _⟩ => ⟨S64x2, .f32⟩
  | .local _ .vmem, ⟨12, _⟩ => ⟨S2, .f32⟩
  | .local _ .vmem, ⟨13, _⟩ => ⟨S64x1, .f32⟩
  | .local _ .vmem, ⟨14, _⟩ => ⟨S1, .f32⟩
  | .local _ .vmem, ⟨15, _⟩ => ⟨S1024x2, .f32⟩
  | .local _ .vmem, ⟨16, _⟩ => ⟨S1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== KernelIdeal.lean ====
variable {F : FTy → Type} [FloatOps F] [Named F]
def κ : String → Option EReal := fun
  | "rest" => some ((4 / 5 : ℝ) : EReal)
  | "slope" => some ((1 / 5 : ℝ) : EReal)
  | _ => none
-- ==== ReferenceIdeal.lean ====
abbrev S1024x256 : Shape := ⟨2, ![1024, 256]⟩
abbrev S256x64 : Shape := ⟨2, ![256, 64]⟩
abbrev S64 : Shape := ⟨1, ![64]⟩
abbrev S64x256 : Shape := ⟨2, ![64, 256]⟩
abbrev S4x64 : Shape := ⟨2, ![4, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S1024x64 : Shape := ⟨2, ![1024, 64]⟩
abbrev S1x64 : Shape := ⟨2, ![1, 64]⟩
abbrev S_ : Shape := ⟨0, ![]⟩
abbrev S1024x4x64 : Shape := ⟨3, ![1024, 4, 64]⟩
abbrev S1x4x64 : Shape := ⟨3, ![1, 4, 64]⟩
abbrev S1024x4 : Shape := ⟨2, ![1024, 4]⟩
abbrev S1024x1x4 : Shape := ⟨3, ![1024, 1, 4]⟩
abbrev S1x1024x4 : Shape := ⟨3, ![1, 1024, 4]⟩
abbrev S1024x1024x4 : Shape := ⟨3, ![1024, 1024, 4]⟩
abbrev S4x64x1024 : Shape := ⟨3, ![4, 64, 1024]⟩
abbrev S1024x2 : Shape := ⟨2, ![1024, 2]⟩
abbrev S1x2 : Shape := ⟨2, ![1, 2]⟩
abbrev S1024x1 : Shape := ⟨2, ![1024, 1]⟩
abbrev S1x1 : Shape := ⟨2, ![1, 1]⟩
abbrev S1024 : Shape := ⟨1, ![1024]⟩

abbrev nBuf : Space → Nat
  | .hbm => 149
  | .vmem => 0
  | .smem => 0
  | _ => 0

abbrev hbmTy0_0 (i : Nat) : BufTy := match i % 128 with
  | 0 => ⟨S1024x256, .f32⟩
  | 1 => ⟨S256x64, .f32⟩
  | 2 => ⟨S64, .f32⟩
  | 3 => ⟨S64x256, .f32⟩
  | 4 => ⟨S4x64, .f32⟩
  | 5 => ⟨S4x64, .f32⟩
  | 6 => ⟨S64, .f32⟩
  | 7 => ⟨S64x256, .f32⟩
  | 8 => ⟨S4x64, .f32⟩
  | 9 => ⟨S4x64, .f32⟩
  | 10 => ⟨S64, .f32⟩
  | 11 => ⟨S64x2, .f32⟩
  | 12 => ⟨S2, .f32⟩
  | 13 => ⟨S64x1, .f32⟩
  | 14 => ⟨S1, .f32⟩
  | 15 => ⟨S1024x64, .f32⟩
  | 16 => ⟨S1x64, .f32⟩
  | 17 => ⟨S1024x64, .f32⟩
  | 18 => ⟨S1024x64, .f32⟩
  | 19 => ⟨S_, .f32⟩
  | 20 => ⟨S1024x64, .f32⟩
  | 21 => ⟨S1024x64, .f32⟩
  | 22 => ⟨S1024x256, .f32⟩
  | 23 => ⟨S1024x4x64, .f32⟩
  | 24 => ⟨S1x4x64, .f32⟩
  | 25 => ⟨S1024x4x64, .f32⟩
  | 26 => ⟨S1024x4x64, .f32⟩
  | 27 => ⟨S_, .f32⟩
  | 28 => ⟨S1024x4, .f32⟩
  | 29 => ⟨S1x4x64, .f32⟩
  | 30 => ⟨S1024x4x64, .f32⟩
  | 31 => ⟨S1024x4x64, .f32⟩
  | 32 => ⟨S_, .f32⟩
  | 33 => ⟨S1024x4, .f32⟩
  | 34 => ⟨S1024x1x4, .f32⟩
  | 35 => ⟨S1x1024x4, .f32⟩
  | 36 => ⟨S1024x1024x4, .f32⟩
  | 37 => ⟨S1024x1024x4, .f32⟩
  | 38 => ⟨S1024x1024x4, .f32⟩
  | 39 => ⟨S_, .f32⟩
  | 40 => ⟨S_, .f32⟩
  | 41 => ⟨S_, .f32⟩
  | 42 => ⟨S_, .f32⟩
  | 43 => ⟨S1024x1024x4, .f32⟩
  | 44 => ⟨S1024x1024x4, .i1⟩
  | 45 => ⟨S1024x1024x4, .f32⟩
  | 46 => ⟨S1024x1024x4, .f32⟩
  | 47 => ⟨S1024x1024x4, .f32⟩
  | 48 => ⟨S_, .f32⟩
  | 49 => ⟨S1024x4, .f32⟩
  | 50 => ⟨S_, .f32⟩
  | 51 => ⟨S1024x4, .f32⟩
  | 52 => ⟨S1024x4, .f32⟩
  | 53 => ⟨S1x1024x4, .f32⟩
  | 54 => ⟨S1024x1024x4, .f32⟩
  | 55 => ⟨S1024x1024x4, .f32⟩
  | 56 => ⟨S1024x1024x4, .f32⟩
  | 57 => ⟨S_, .f32⟩
  | 58 => ⟨S1024x4, .f32⟩
  | 59 => ⟨S1x1024x4, .f32⟩
  | 60 => ⟨S1024x1024x4, .f32⟩
  | 61 => ⟨S1024x1024x4, .f32⟩
  | 62 => ⟨S4x64x1024, .f32⟩
  | 63 => ⟨S1024x4x64, .f32⟩
  | 64 => ⟨S_, .f32⟩
  | 65 => ⟨S1024x64, .f32⟩
  | 66 => ⟨S_, .f32⟩
  | 67 => ⟨S1024x64, .f32⟩
  | 68 => ⟨S1024x64, .f32⟩
  | 69 => ⟨S1x64, .f32⟩
  | 70 => ⟨S1024x64, .f32⟩
  | 71 => ⟨S1024x64, .f32⟩
  | 72 => ⟨S_, .f32⟩
  | 73 => ⟨S1024x64, .f32⟩
  | 74 => ⟨S1024x64, .f32⟩
  | 75 => ⟨S1024x256, .f32⟩
  | 76 => ⟨S1024x4x64, .f32⟩
  | 77 => ⟨S1x4x64, .f32⟩
  | 78 => ⟨S1024x4x64, .f32⟩
  | 79 => ⟨S1024x4x64, .f32⟩
  | 80 => ⟨S_, .f32⟩
  | 81 => ⟨S1024x4, .f32⟩
  | 82 => ⟨S1x4x64, .f32⟩
  | 83 => ⟨S1024x4x64, .f32⟩
  | 84 => ⟨S1024x4x64, .f32⟩
  | 85 => ⟨S_, .f32⟩
  | 86 => ⟨S1024x4, .f32⟩
  | 87 => ⟨S1024x1x4, .f32⟩
  | 88 => ⟨S1x1024x4, .f32⟩
  | 89 => ⟨S1024x1024x4, .f32⟩
  | 90 => ⟨S1024x1024x4, .f32⟩
  | 91 => ⟨S1024x1024x4, .f32⟩
  | 92 => ⟨S_, .f32⟩
  | 93 => ⟨S_, .f32⟩
  | 94 => ⟨S_, .f32⟩
  | 95 => ⟨S_, .f32⟩
  | 96 => ⟨S1024x1024x4, .f32⟩
  | 97 => ⟨S1024x1024x4, .i1⟩
  | 98 => ⟨S1024x1024x4, .f32⟩
  | 99 => ⟨S1024x1024x4, .f32⟩
  | 100 => ⟨S1024x1024x4, .f32⟩
  | 101 => ⟨S_, .f32⟩
  | 102 => ⟨S1024x4, .f32⟩
  | 103 => ⟨S_, .f32⟩
  | 104 => ⟨S1024x4, .f32⟩
  | 105 => ⟨S1024x4, .f32⟩
  | 106 => ⟨S1x1024x4, .f32⟩
  | 107 => ⟨S1024x1024x4, .f32⟩
  | 108 => ⟨S1024x1024x4, .f32⟩
  | 109 => ⟨S1024x1024x4, .f32⟩
  | 110 => ⟨S_, .f32⟩
  | 111 => ⟨S1024x4, .f32⟩
  | 112 => ⟨S1x1024x4, .f32⟩
  | 113 => ⟨S1024x1024x4, .f32⟩
  | 114 => ⟨S1024x1024x4, .f32⟩
  | 115 => ⟨S4x64x1024, .f32⟩
  | 116 => ⟨S1024x4x64, .f32⟩
  | 117 => ⟨S_, .f32⟩
  | 118 => ⟨S1024x64, .f32⟩
  | 119 => ⟨S_, .f32⟩
  | 120 => ⟨S1024x64, .f32⟩
  | 121 => ⟨S1024x64, .f32⟩
  | 122 => ⟨S1x64, .f32⟩
  | 123 => ⟨S1024x64, .f32⟩
  | 124 => ⟨S1024x64, .f32⟩
  | 125 => ⟨S_, .f32⟩
  | 126 => ⟨S1024x64, .f32⟩
  | 127 => ⟨S1024x64, .f32⟩
  | _ => ⟨S1024x256, .f32⟩

abbrev hbmTy0_1 (i : Nat) : BufTy := match i % 128 with
  | 0 => ⟨S1024x2, .f32⟩
  | 1 => ⟨S1x2, .f32⟩
  | 2 => ⟨S1024x2, .f32⟩
  | 3 => ⟨S1024x2, .f32⟩
  | 4 => ⟨S_, .f32⟩
  | 5 => ⟨S_, .f32⟩
  | 6 => ⟨S_, .f32⟩
  | 7 => ⟨S1024x2, .f32⟩
  | 8 => ⟨S1024x2, .f32⟩
  | 9 => ⟨S_, .f32⟩
  | 10 => ⟨S1024x2, .f32⟩
  | 11 => ⟨S1024x2, .f32⟩
  | 12 => ⟨S1024x1, .f32⟩
  | 13 => ⟨S1024x1, .f32⟩
  | 14 => ⟨S1024x1, .f32⟩
  | 15 => ⟨S1024x2, .f32⟩
  | 16 => ⟨S1024x1, .f32⟩
  | 17 => ⟨S1x1, .f32⟩
  | 18 => ⟨S1024x1, .f32⟩
  | 19 => ⟨S1024x1, .f32⟩
  | 20 => ⟨S1024, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_cst_2 : Ref sig .tc := ⟨.hbm, 40, rfl⟩
abbrev main_v20 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_cst : Ref sig .tc := ⟨.hbm, 72, rfl⟩
abbrev main_call2_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_8 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_cst_11 : Ref sig .tc := ⟨.hbm, 93, rfl⟩
abbrev main_v57 : Ref sig .tc := ⟨.hbm, 94, rfl⟩
abbrev main_call3_cst : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_v58 : Ref sig .tc := ⟨.hbm, 100, rfl⟩
abbrev main_cst_12 : Ref sig .tc := ⟨.hbm, 101, rfl⟩
abbrev main_v59 : Ref sig .tc := ⟨.hbm, 102, rfl⟩
abbrev main_cst_13 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_14 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_15 : Ref sig .tc := ⟨.hbm, 117, rfl⟩
abbrev main_v72 : Ref sig .tc := ⟨.hbm, 118, rfl⟩
abbrev main_cst_16 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call4_cst : Ref sig .tc := ⟨.hbm, 125, rfl⟩
abbrev main_call4_v0 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_17 : Ref sig .tc := ⟨.hbm, 132, rfl⟩
abbrev main_cst_18 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩

abbrev nD : Nat := 1
abbrev τ : Topo := Topo.v7x

variable {F : FTy → Type} [FloatOps F]
-- ==== Proof.KernelLayer.lean ====
/-
  The kernel's network, written once as functions of whole arrays: one attention layer with the head as a parameter,
  the embedding in front and the two output maps behind. `logits_eq` and `values_eq` say that the two result
  arrays of the kernel are these functions of its arguments.
-/
module

public import proofs.«01_k».proof.Proof.Gen.KernelIdeal.Value

@[expose] public section

set_option maxRecDepth 16384

noncomputable section

namespace Cert.KernelNet

open Cert.KernelIdeal Cert.KernelIdeal.Gen Idealize.ShloMosaic

variable {F : FTy → Type} [FloatOps F] [Named F]

/-! ## Slices at a head -/

/-- A head is a row of the attention vectors. -/
theorem row_slices (k : Fin 4) : S4x64.Slices ![(k : ℕ), 0] S1x64 := by revert k; decide
/-- A head is a block of 64 columns of the projection. -/
theorem block_slices (k : Fin 4) : S64x256.Slices ![0, 64 * (k : ℕ)] S64x64 := by revert k; decide
/-- A head is a row of the source scores. -/
theorem score_slices (k : Fin 4) : S4x1024.Slices ![(k : ℕ), 0] S1x1024 := by revert k; decide
/-- A head is an entry of a column of four. -/
theorem entry_slices (k : Fin 4) : S4x1.Slices ![(k : ℕ), 0] S1x1 := by revert k; decide
/-- A head is a column of the destination scores. -/
theorem col_slices (k : Fin 4) : S1024x4.Slices ![0, (k : ℕ)] S1024x1 := by revert k; decide
/-- A head is a block of 64 columns of the features. -/
theorem feat_slices (k : Fin 4) : S1024x256.Slices ![0, 64 * (k : ℕ)] S1024x64 := by revert k; decide

/-! ## The layer -/

/-- Row `k` of an attention vector times the transpose of head `k`'s block of columns of the weights. -/
def row (k : Fin 4) (W : FVec F S64x256 .f32) (a : FVec F S4x64 .f32) : FVec F S1x64 .f32 :=
  matmul dot_S1x64_S64x64_S1x64_1_1_0_0_n_n none
    (extractStridedSlice S1x64 ![(k : ℕ), 0] a (row_slices k))
    (extractStridedSlice S64x64 ![0, 64 * (k : ℕ)] W (block_slices k)) (constant S1x64 .f32 0x00000000#32)

/-- The four rows, one under the other. -/
def rows (W : FVec F S64x256 .f32) (a : FVec F S4x64 .f32) : FVec F S4x64 .f32 :=
  concatenate S4x64 0 [⟨S1x64, row 0 W a⟩, ⟨S1x64, row 1 W a⟩, ⟨S1x64, row 2 W a⟩, ⟨S1x64, row 3 W a⟩]
    Facts₀.concatenates_S1x64_S1x64_S1x64_S1x64_S4x64_d0

/-- The source scores: head by node. -/
def src (h : FVec F S1024x64 .f32) (W : FVec F S64x256 .f32) (a : FVec F S4x64 .f32) : FVec F S4x1024 .f32 :=
  matmul dot_S4x64_S1024x64_S4x1024_1_1_0_0_n_n none (rows W a) h (constant S4x1024 .f32 0x00000000#32)

/-- The destination scores: node by head. -/
def dst (h : FVec F S1024x64 .f32) (W : FVec F S64x256 .f32) (a : FVec F S4x64 .f32) : FVec F S1024x4 .f32 :=
  matmul dot_S1024x64_S4x64_S1024x4_1_1_0_0_n_n none h (rows W a) (constant S1024x4 .f32 0x00000000#32)

/-- Per head, the largest source score. -/
def top (S : FVec F S4x1024 .f32) : FVec F S4x1 .f32 :=
  shapeCast S4x1 (multiReduction .maximumf [1] S4 S 0xFF800000#32 Facts₀.reduces_S4x1024_S4 (.inl rfl) rfl)
    Facts₀.shapeCasts_S4_S4x1

/-- Per head, the smallest source score. -/
def low (S : FVec F S4x1024 .f32) : FVec F S4x1 .f32 :=
  shapeCast S4x1 (multiReduction .minimumf [1] S4 S 0x7F800000#32 Facts₀.reduces_S4x1024_S4 (.inl rfl) rfl)
    Facts₀.shapeCasts_S4_S4x1

/-- Per head, the range of the source scores, capped at 75. -/
def cap (S : FVec F S4x1024 .f32) : FVec F S4x1 .f32 :=
  minimumf (subf (top S) (low S)) (broadcast S4x1 (Scalar.ofBits .f32 0x42960000#32))

/-- A column of four entries laid out as a row. -/
def across (C : FVec F S4x1 .f32) : FVec F S1x4 .f32 :=
  concatenate S1x4 1
    [⟨S1x1, extractStridedSlice S1x1 ![((0 : Fin 4) : ℕ), 0] C (entry_slices 0)⟩,
     ⟨S1x1, extractStridedSlice S1x1 ![((1 : Fin 4) : ℕ), 0] C (entry_slices 1)⟩,
     ⟨S1x1, extractStridedSlice S1x1 ![((2 : Fin 4) : ℕ), 0] C (entry_slices 2)⟩,
     ⟨S1x1, extractStridedSlice S1x1 ![((3 : Fin 4) : ℕ), 0] C (entry_slices 3)⟩]
    Facts₀.concatenates_S1x1_S1x1_S1x1_S1x1_S1x4_d1

/-- The factor of a destination: `exp (4/5 · min (dst + top, cap))`, node by head. -/
def gain (S : FVec F S4x1024 .f32) (T : FVec F S1024x4 .f32) : FVec F S1024x4 .bf16 :=
  truncf .bf16 (exp (mulf (broadcast S1024x4 (Named.named κ "rest" 0x3F4CCCCD#32))
    (minimumf (addf T (broadcastTo S1024x4 (across (top S)) Facts₀.broadcasts_S1x4_S1024x4))
      (broadcastTo S1024x4 (across (cap S)) Facts₀.broadcasts_S1x4_S1024x4)))) Facts₀.bitsLt_bf16_f32

/-- The projected features of all heads side by side. -/
def feat (h : FVec F S1024x64 .f32) (W : FVec F S64x256 .f32) : FVec F S1024x256 .bf16 :=
  truncf .bf16 (matmul dot_S1024x64_S64x256_S1024x256_1_0_0_1_n_n none h W (constant S1024x256 .f32 0x00000000#32))
    Facts₀.bitsLt_bf16_f32

/-- Head `k`'s source scores less their largest. -/
def shift (k : Fin 4) (S : FVec F S4x1024 .f32) : FVec F S1x1024 .f32 :=
  subf (extractStridedSlice S1x1024 ![(k : ℕ), 0] S (score_slices k))
    (broadcast S1x1024 (extractAt ![0, 0] (extractStridedSlice S1x1 ![(k : ℕ), 0] (top S) (entry_slices k))
      Facts₀.inpos_S1x1_p0_0))

/-- Head `k`'s weights, destination by source: the larger of `gain · exp shift` and `exp (shift / 5)`. -/
def weights (k : Fin 4) (S : FVec F S4x1024 .f32) (T : FVec F S1024x4 .f32) : FVec F S1024x1024 .bf16 :=
  maximumf
    (mulf (broadcastTo S1024x1024 (extractStridedSlice S1024x1 ![0, (k : ℕ)] (gain S T) (col_slices k))
        Facts₀.broadcasts_S1024x1_S1024x1024)
      (broadcastTo S1024x1024 (truncf .bf16 (exp (shift k S)) Facts₀.bitsLt_bf16_f32)
        Facts₀.broadcasts_S1x1024_S1024x1024))
    (broadcastTo S1024x1024 (truncf .bf16 (exp (mulf (broadcast S1x1024 (Named.named κ "slope" 0x3E4CCCCD#32))
        (shift k S))) Facts₀.bitsLt_bf16_f32) Facts₀.broadcasts_S1x1024_S1024x1024)

/-- Head `k`'s features with a column of fours behind them. -/
def tail (k : Fin 4) (X : FVec F S1024x256 .bf16) : FVec F S1024x65 .bf16 :=
  concatenate S1024x65 1
    [⟨S1024x64, extractStridedSlice S1024x64 ![0, 64 * (k : ℕ)] X (feat_slices k)⟩,
     ⟨S1024x1, broadcast S1024x1 (Scalar.ofBits .bf16 0x4080#16)⟩]
    Facts₀.concatenates_S1024x64_S1024x1_S1024x65_d1

/-- Weights times features: the numerators and, in the last column, the denominator. -/
def sums (w : FVec F S1024x1024 .bf16) (X : FVec F S1024x65 .bf16) : FVec F S1024x65 .f32 :=
  matmul dot_S1024x1024_S1024x65_S1024x65_1_0_0_1_n_n none w X (constant S1024x65 .f32 0x00000000#32)

/-- The numerators over the denominator. -/
def ratio (N : FVec F S1024x65 .f32) : FVec F S1024x64 .f32 :=
  divf (extractStridedSlice S1024x64 ![0, 0] N Facts₀.slices_S1024x65_o0_0_S1024x64)
    (broadcastTo S1024x64 (extractStridedSlice S1024x1 ![0, 64] N Facts₀.slices_S1024x65_o0_64_S1024x1)
      Facts₀.broadcasts_S1024x1_S1024x64)

/-- Head `k`'s share of the layer's result. -/
def head (k : Fin 4) (h : FVec F S1024x64 .f32) (W : FVec F S64x256 .f32) (av dv : FVec F S4x64 .f32) :
    FVec F S1024x64 .f32 :=
  ratio (sums (weights k (src h W av) (dst h W dv)) (tail k (feat h W)))

/-- The four heads added up. -/
def heads (h : FVec F S1024x64 .f32) (W : FVec F S64x256 .f32) (av dv : FVec F S4x64 .f32) : FVec F S1024x64 .f32 :=
  addf (addf (addf (head 0 h W av dv) (head 1 h W av dv)) (head 2 h W av dv)) (head 3 h W av dv)

/-- A bias added to every row, and the negative part cut off. -/
def act (x : FVec F S1024x64 .f32) (b : FVec F S64 .f32) : FVec F S1024x64 .f32 :=
  maximumf (addf x (broadcastTo S1024x64 (shapeCast S1x64 b Facts₀.shapeCasts_S64_S1x64)
    Facts₀.broadcasts_S1x64_S1024x64)) (broadcast S1024x64 (Scalar.ofBits .f32 0x00000000#32))

/-- One layer. -/
def layer (h : FVec F S1024x64 .f32) (W : FVec F S64x256 .f32) (av dv : FVec F S4x64 .f32) (b : FVec F S64 .f32) :
    FVec F S1024x64 .f32 :=
  act (heads h W av dv) b

/-- The embedding. -/
def embed (x : FVec F S1024x256 .f32) (We : FVec F S256x64 .f32) (be : FVec F S64 .f32) : FVec F S1024x64 .f32 :=
  act (matmul dot_S1024x256_S256x64_S1024x64_1_0_0_1_n_n none x We (constant S1024x64 .f32 0x00000000#32)) be

/-- Both output maps side by side: two columns of logits, one of values. -/
def output (h : FVec F S1024x64 .f32) (Wa : FVec F S64x2 .f32) (ba : FVec F S2 .f32) (Wc : FVec F S64x1 .f32)
    (bc : FVec F S1 .f32) : FVec F S1024x3 .f32 :=
  addf (matmul dot_S1024x64_S64x3_S1024x3_1_0_0_1_n_n none h
      (concatenate S64x3 1 [⟨S64x2, Wa⟩, ⟨S64x1, Wc⟩] Facts₀.concatenates_S64x2_S64x1_S64x3_d1)
      (constant S1024x3 .f32 0x00000000#32))
    (broadcastTo S1024x3 (shapeCast S1x3 (concatenate S3 0 [⟨S2, ba⟩, ⟨S1, bc⟩] Facts₀.concatenates_S2_S1_S3_d0)
      Facts₀.shapeCasts_S3_S1x3) Facts₀.broadcasts_S1x3_S1024x3)

/-- The logits: the first two columns clipped to `[-5, 5]`, the second of them made absolute. -/
def logits (y : FVec F S1024x3 .f32) : FVec F S1024x2 .f32 :=
  k0_pay1 (maximumf (broadcast S1024x3 (Scalar.ofBits .f32 0xC0A00000#32)) y)
    (broadcast S1024x3 (Scalar.ofBits .f32 0x40A00000#32))

/-- The hidden features that the output maps read. -/
def hidden (x : FVec F S1024x256 .f32) (We : FVec F S256x64 .f32) (be : FVec F S64 .f32) (W1 : FVec F S64x256 .f32)
    (as1 ad1 : FVec F S4x64 .f32) (b1 : FVec F S64 .f32) (W2 : FVec F S64x256 .f32) (as2 ad2 : FVec F S4x64 .f32)
    (b2 : FVec F S64 .f32) : FVec F S1024x64 .f32 :=
  layer (layer (embed x We be) W1 as1 ad1 b1) W2 as2 ad2 b2

/-! ## The kernel's results are these functions -/

variable (a0 : FVec F S1024x256 .f32) (a1 : FVec F S256x64 .f32) (a2 : FVec F S64 .f32) (a3 : FVec F S64x256 .f32)
  (a4 a5 : FVec F S4x64 .f32) (a6 : FVec F S64 .f32) (a7 : FVec F S64x256 .f32) (a8 a9 : FVec F S4x64 .f32)
  (a10 : FVec F S64 .f32) (a11 : FVec F S64x2 .f32) (a12 : FVec F S2 .f32) (a13 : FVec F S64x1 .f32)
  (a14 : FVec F S1 .f32)

/-- The two written zeros are the zero offset. -/
theorem off2 : (![0, 0] : Fin 2 → ℕ) = fun _ => 0 := funext fun a => by fin_cases a <;> rfl
/-- The one written zero is the zero offset. -/
theorem off1 : (![0] : Fin 1 → ℕ) = fun _ => 0 := funext fun a => by fin_cases a; rfl

/-! A load of a whole block is the block. -/

/-- A read of all node inputs is the array. -/
theorem load_x (X : Vec F S1024x256 .f32) : View.ld (Val := Elt F) X r0_0 = X := View.ld_unit_zero off2 _ X
/-- A read of all of the embedding matrix is the array. -/
theorem load_We (X : Vec F S256x64 .f32) : View.ld (Val := Elt F) X r0_1 = X := View.ld_unit_zero off2 _ X
/-- A read of all of a bias is the array. -/
theorem load_bias (X : Vec F S64 .f32) : View.ld (Val := Elt F) X r0_2 = X := View.ld_unit_zero off1 _ X
/-- A read of all of a projection is the array. -/
theorem load_W (X : Vec F S64x256 .f32) : View.ld (Val := Elt F) X r0_3 = X := View.ld_unit_zero off2 _ X
/-- A read of all of the attention vectors is the array. -/
theorem load_vec (X : Vec F S4x64 .f32) : View.ld (Val := Elt F) X r0_4 = X := View.ld_unit_zero off2 _ X

/-- The kernel's first stage is the embedding of its arguments. -/
theorem embed_eq : k0_pay61 a0 a1 a2 a3 a4 a5 a6 a7 a8 a9 a10 a11 a12 a13 a14 = embed a0 a1 a2 := by
  unfold k0_pay61
  rw [load_x, load_We, load_bias]
  rfl

/-- The kernel's second stage is one layer applied to the first. -/
theorem layer_eq : k0_pay73 a0 a1 a2 a3 a4 a5 a6 a7 a8 a9 a10 a11 a12 a13 a14
    = layer (embed a0 a1 a2) a3 a4 a5 a6 := by
  simp only [k0_pay73, k0_pay72, k0_pay71, k0_pay70, k0_pay69, k0_pay68, k0_pay67, k0_pay66, k0_pay65, k0_pay64,
    k0_pay63, k0_pay62, k0_pay60, k0_pay59, embed_eq, load_W, load_vec, load_bias]
  generalize embed a0 a1 a2 = h
  rfl

/-- The three columns of output are the output maps of a layer of a layer. -/
theorem output_eq :
    k0_pay56 (k0_pay60 a0 a1 a2 a3 a4 a5 a6 a7 a8 a9 a10 a11 a12 a13 a14) a10
      (k0_pay78 a0 a1 a2 a3 a4 a5 a6 a7 a8 a9 a10 a11 a12 a13 a14)
      (k0_pay79 a0 a1 a2 a3 a4 a5 a6 a7 a8 a9 a10 a11 a12 a13 a14)
      (k0_pay80 a0 a1 a2 a3 a4 a5 a6 a7 a8 a9 a10 a11 a12 a13 a14)
      (k0_pay81 a0 a1 a2 a3 a4 a5 a6 a7 a8 a9 a10 a11 a12 a13 a14)
      (k0_pay82 a0 a1 a2 a3 a4 a5 a6 a7 a8 a9 a10 a11 a12 a13 a14)
      (k0_pay83 a0 a1 a2 a3 a4 a5 a6 a7 a8 a9 a10 a11 a12 a13 a14)
      (k0_pay84 a0 a1 a2 a3 a4 a5 a6 a7 a8 a9 a10 a11 a12 a13 a14) a11 a13 a12 a14
    = output (hidden a0 a1 a2 a3 a4 a5 a6 a7 a8 a9 a10) a11 a12 a13 a14 := by
  simp only [hidden, k0_pay84, k0_pay83, k0_pay82, k0_pay81, k0_pay80, k0_pay79, k0_pay78, k0_pay77, k0_pay76,
    k0_pay75, k0_pay74, k0_pay60, layer_eq, load_W, load_vec]
  generalize layer (embed a0 a1 a2) a3 a4 a5 a6 = h
  rfl

/-- The kernel's first result is the logits of its output columns. -/
theorem logits_eq : Value.G15 a0 a1 a2 a3 a4 a5 a6 a7 a8 a9 a10 a11 a12 a13 a14
    = logits (output (hidden a0 a1 a2 a3 a4 a5 a6 a7 a8 a9 a10) a11 a12 a13 a14) := by
  rw [← output_eq]; rfl

/-- The kernel's second result is the last of its output columns. -/
theorem values_eq : Value.G16 a0 a1 a2 a3 a4 a5 a6 a7 a8 a9 a10 a11 a12 a13 a14
    = k0_pay2 (output (hidden a0 a1 a2 a3 a4 a5 a6 a7 a8 a9 a10) a11 a12 a13 a14) := by
  rw [← output_eq]

end Cert.KernelNet

end
-- ==== Proof.Consts.lean ====
/-
  The extended reals that the programs' constants denote.
-/
module

public import Idealize.ShloMosaic.PureOps.Ideal
public import Idealize.ShloMosaic.PureOps.IdealRules
public import proofs.«01_k».proof.KernelIdeal

@[expose] public section

noncomputable section

namespace Cert.Consts

open Idealize.ShloMosaic

/-- The word of `4.0` in sixteen bits. -/
theorem four_short : Ideal.ofBits .bf16 0x4080#16 = ((4 : ℝ) : EReal) := by
  simp [Ideal.ofBits, Ideal.ieee, -EReal.coe_mul]; norm_num

/-- The word of `4.0`. -/
theorem four : Ideal.ofBits .f32 0x40800000#32 = ((4 : ℝ) : EReal) := by
  simp [Ideal.ofBits, Ideal.ieee, -EReal.coe_mul]; norm_num

/-- The word of `5.0`. -/
theorem five : Ideal.ofBits .f32 0x40A00000#32 = ((5 : ℝ) : EReal) := by
  simp [Ideal.ofBits, Ideal.ieee, -EReal.coe_mul]; norm_num

/-- The word of `75.0`. -/
theorem seventy_five : Ideal.ofBits .f32 0x42960000#32 = ((75 : ℝ) : EReal) := by
  simp [Ideal.ofBits, Ideal.ieee, -EReal.coe_mul]; norm_num

/-- The word of minus infinity. -/
theorem neg_inf : Ideal.ofBits .f32 0xFF800000#32 = ⊥ := by
  simp [Ideal.ofBits, Ideal.ieee]

/-- The word of infinity. -/
theorem pos_inf : Ideal.ofBits .f32 0x7F800000#32 = ⊤ := by
  simp [Ideal.ofBits, Ideal.ieee]

/-- The constant named "slope" is one fifth. -/
theorem slope : Named.named (F := Ideal) Cert.KernelIdeal.κ "slope" (φ := .f32) 0x3E4CCCCD#32 = ((1 / 5 : ℝ) : EReal) :=
  IdealRules.named_const.ideal_named_scalar _ _ _ _ rfl

/-- The constant named "rest" is four fifths. -/
theorem rest : Named.named (F := Ideal) Cert.KernelIdeal.κ "rest" (φ := .f32) 0x3F4CCCCD#32 = ((4 / 5 : ℝ) : EReal) :=
  IdealRules.named_const.ideal_named_scalar _ _ _ _ rfl

end Cert.Consts

end
-- ==== Proof.Attention.lean ====
/-
  One attention layer over the real numbers, and why the kernel's way of weighing a source is the softmax's.

  A source node `s` has a score `score … s k` at head `k`, a destination node `t` another; a pair weighs
  `exp (bend (source score + destination score))`, where `bend` is the leaky ramp of slope 1/5. The layer's result at a
  destination is the mean over the heads of the weighted mean over the sources of the projected features.

  The kernel weighs a source by `max (exp (4/5 · min (q, min (R, 75))) · exp (s - p)) (exp ((s - p) / 5))`, with `p` the
  largest source score, `q` the destination score plus `p`, and `R` the range of the source scores. Where the bound 75
  does not bind, that is the softmax's weight times one positive factor of the destination (`kernel_weight`), which the
  quotient cancels (`weighted_mean`).
-/
module

public import Idealize.ShloMosaic.PureOps.Ideal

@[expose] public section

noncomputable section

namespace Cert.Gat

open Finset

/-- Column `d` of head `k`'s block of columns. -/
def col (k : Fin 4) (d : Fin 64) : Fin 256 := ⟨64 * (k : ℕ) + (d : ℕ), by omega⟩

/-- The projected features: row `n` of the node features times head `k`'s columns of the weights. -/
def proj (H : Fin 1024 → Fin 64 → ℝ) (W : Fin 64 → Fin 256 → ℝ) (n : Fin 1024) (k : Fin 4) (d : Fin 64) : ℝ :=
  ∑ j, H n j * W j (col k d)

/-- A node's score at a head: its projected features against the head's attention vector. -/
def score (H : Fin 1024 → Fin 64 → ℝ) (W : Fin 64 → Fin 256 → ℝ) (a : Fin 4 → Fin 64 → ℝ) (n : Fin 1024) (k : Fin 4) :
    ℝ := ∑ d, proj H W n k d * a k d

/-- The leaky ramp of slope 1/5. -/
def bend (e : ℝ) : ℝ := if 0 ≤ e then e else e / 5

/-- What source `s` weighs at destination `t` and head `k`. -/
def weight (H : Fin 1024 → Fin 64 → ℝ) (W : Fin 64 → Fin 256 → ℝ) (a b : Fin 4 → Fin 64 → ℝ) (s t : Fin 1024)
    (k : Fin 4) : ℝ := Real.exp (bend (score H W a s k + score H W b t k))

/-- The weighted mean over the sources at one head. -/
def mean (H : Fin 1024 → Fin 64 → ℝ) (W : Fin 64 → Fin 256 → ℝ) (a b : Fin 4 → Fin 64 → ℝ) (t : Fin 1024) (k : Fin 4)
    (d : Fin 64) : ℝ := (∑ s, weight H W a b s t k * proj H W s k d) / ∑ s, weight H W a b s t k

/-- The layer without its bias: the mean over the heads. -/
def gat (H : Fin 1024 → Fin 64 → ℝ) (W : Fin 64 → Fin 256 → ℝ) (a b : Fin 4 → Fin 64 → ℝ) (t : Fin 1024) (d : Fin 64) :
    ℝ := (∑ k, mean H W a b t k d) / 4

/-- The largest of 1024 numbers. -/
def peak (f : Fin 1024 → ℝ) : ℝ := univ.sup' ⟨0, mem_univ _⟩ f

/-- The smallest of 1024 numbers. -/
def trough (f : Fin 1024 → ℝ) : ℝ := univ.inf' ⟨0, mem_univ _⟩ f

/-- Every score is at most the largest. -/
theorem le_peak (f : Fin 1024 → ℝ) (s : Fin 1024) : f s ≤ peak f := le_sup' f (mem_univ s)
/-- Every score is at least the smallest. -/
theorem trough_le (f : Fin 1024 → ℝ) (s : Fin 1024) : trough f ≤ f s := inf'_le f (mem_univ s)

/-- What the kernel's bound 75 must not cut off: at head `k`, for every destination, the smaller of the destination score
    plus the largest source score and the range of the source scores. -/
def Within (H : Fin 1024 → Fin 64 → ℝ) (W : Fin 64 → Fin 256 → ℝ) (a b : Fin 4 → Fin 64 → ℝ) : Prop :=
  ∀ (t : Fin 1024) (k : Fin 4),
    min (score H W b t k + peak fun s => score H W a s k)
      ((peak fun s => score H W a s k) - trough fun s => score H W a s k) ≤ 75

/-- The kernel's weight of a source score `x`, for the largest source score `p`, the smallest `l` and the destination
    score `y`. -/
def kernelWeight (p l y x : ℝ) : ℝ :=
  max (Real.exp (4 / 5 * min (y + p) (min (p - l) 75)) * Real.exp (x - p)) (Real.exp (1 / 5 * (x - p)))

/-- The leaky ramp is the larger of a number and its fifth. -/
theorem bend_eq_max (e : ℝ) : bend e = max e (e / 5) := by
  unfold bend
  split
  · rw [max_eq_left]; linarith
  · rw [max_eq_right]; linarith

/-- Where the bound 75 does not bind, the kernel's weights are the softmax's times one positive factor. -/
theorem kernel_weight (p l y : ℝ) (h : min (y + p) (p - l) ≤ 75) :
    ∃ c : ℝ, 0 < c ∧ ∀ x, x ≤ p → l ≤ x → kernelWeight p l y x = c * Real.exp (bend (x + y)) := by
  have hmin : min (y + p) (min (p - l) 75) = min (y + p) (p - l) := by rw [← min_assoc, min_eq_left h]
  unfold kernelWeight
  rw [hmin]
  rcases le_total (y + p) (p - l) with hq | hq
  · refine ⟨Real.exp (-(y + p) / 5), Real.exp_pos _, fun x _ _ => ?_⟩
    rw [min_eq_left hq, bend_eq_max, ← Real.exp_add, ← Real.exp_add, ← Real.exp_monotone.map_max, ← max_add_add_left]
    congr 2 <;> ring
  · refine ⟨Real.exp (4 / 5 * (p - l) - (y + p)), Real.exp_pos _, fun x hx hl => ?_⟩
    have he : max (x + y) ((x + y) / 5) = x + y := max_eq_left (by linarith)
    rw [min_eq_right hq, bend_eq_max, he, ← Real.exp_add, ← Real.exp_add,
      max_eq_left (Real.exp_le_exp.mpr (by linarith))]
    congr 1; ring

/-- A common factor of the weights leaves a weighted mean alone. -/
theorem weighted_mean (c : ℝ) (hc : 0 < c) (w v f : Fin 1024 → ℝ) (h : ∀ s, v s = c * w s) :
    (∑ s, v s * f s) / ∑ s, v s = (∑ s, w s * f s) / ∑ s, w s := by
  simp only [h, mul_assoc, ← mul_sum]
  exact mul_div_mul_left _ _ hc.ne'

/-- A weight is positive. -/
theorem weight_pos (H : Fin 1024 → Fin 64 → ℝ) (W : Fin 64 → Fin 256 → ℝ) (a b : Fin 4 → Fin 64 → ℝ) (s t : Fin 1024)
    (k : Fin 4) : 0 < weight H W a b s t k := Real.exp_pos _

/-- A sum of positive weights is positive. -/
theorem sum_pos' (w : Fin 1024 → ℝ) (h : ∀ s, 0 < w s) : 0 < ∑ s, w s :=
  sum_pos (fun s _ => h s) ⟨0, mem_univ _⟩

/-- One head of the kernel: its weighted sum over four times its sum of weights is a quarter of the softmax's mean. -/
theorem kernel_head (H : Fin 1024 → Fin 64 → ℝ) (W : Fin 64 → Fin 256 → ℝ) (a b : Fin 4 → Fin 64 → ℝ)
    (hw : Within H W a b) (t : Fin 1024) (k : Fin 4) (d : Fin 64) (v : Fin 1024 → ℝ)
    (hv : ∀ s, v s = kernelWeight (peak fun s => score H W a s k) (trough fun s => score H W a s k) (score H W b t k)
      (score H W a s k)) :
    (∑ s, v s * proj H W s k d) / (∑ s, v s * 4) = mean H W a b t k d / 4 := by
  obtain ⟨c, hc, hx⟩ := kernel_weight _ _ _ (hw t k)
  have h : ∀ s, v s = c * weight H W a b s t k := fun s => by
    rw [hv s, hx _ (le_peak (fun s => score H W a s k) s) (trough_le (fun s => score H W a s k) s)]; rfl
  rw [← sum_mul, ← div_div, weighted_mean c hc _ _ _ h]; rfl

/-- The score through the weights first: the attention vector times the weights, then times the features. -/
theorem score_assoc (H : Fin 1024 → Fin 64 → ℝ) (W : Fin 64 → Fin 256 → ℝ) (a : Fin 4 → Fin 64 → ℝ) (n : Fin 1024)
    (k : Fin 4) : ∑ j, (∑ d, a k d * W j (col k d)) * H n j = score H W a n k := by
  unfold score proj
  simp only [sum_mul]
  rw [sum_comm]
  exact sum_congr rfl fun d _ => sum_congr rfl fun j _ => by ring

end Cert.Gat

end
-- ==== Proof.Reals.lean ====
/-
  Reading extended reals that are real: sums, largest and smallest elements, quotients and factors of arrays whose every
  entry is a real number.
-/
module

public import Idealize.ShloMosaic.PureOps.Ideal
public import proofs.«01_k».proof.Proof.Attention

@[expose] public section

noncomputable section

namespace Cert.Reals

open Idealize.ShloMosaic Finset

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- A sum of products of reals, as an extended real. -/
theorem sum_mul {ι : Type*} [Fintype ι] (f g : ι → ℝ) :
    ∑ i, ((f i : ℝ) : EReal) * ((g i : ℝ) : EReal) = ((∑ i, f i * g i : ℝ) : EReal) := by
  rw [coe_sum]; simp only [EReal.coe_mul]

/-- The larger of two reals, as an extended real. -/
theorem max_coe (x y : ℝ) : max (x : EReal) (y : EReal) = ((max x y : ℝ) : EReal) :=
  ((Monotone.map_max fun _ _ h => EReal.coe_le_coe_iff.mpr h) : ((max x y : ℝ) : EReal) = _).symm

/-- The smaller of two reals, as an extended real. -/
theorem min_coe (x y : ℝ) : min (x : EReal) (y : EReal) = ((min x y : ℝ) : EReal) :=
  ((Monotone.map_min fun _ _ h => EReal.coe_le_coe_iff.mpr h) : ((min x y : ℝ) : EReal) = _).symm

/-- A quotient of reals by a positive real, as an extended real. -/
theorem div_coe (x y : ℝ) (h : 0 < y) : Ideal.div (x : EReal) (y : EReal) = ((x / y : ℝ) : EReal) := by
  rw [Ideal.div_coe h.ne', ← EReal.coe_mul]; congr 1; ring

/-- The running maximum of 1024 reals from minus infinity is the largest. -/
theorem fold_max (f : Fin 1024 → ℝ) :
    Finset.fold max (⊥ : EReal) (fun s => ((f s : ℝ) : EReal)) univ = ((Gat.peak f : ℝ) : EReal) := by
  refine le_antisymm ?_ ?_
  · rw [Finset.fold_max_le]
    exact ⟨bot_le, fun s _ => EReal.coe_le_coe_iff.mpr (Gat.le_peak f s)⟩
  · obtain ⟨s, hs, h⟩ := Finset.exists_mem_eq_sup' (s := (univ : Finset (Fin 1024))) ⟨0, mem_univ _⟩ f
    rw [Finset.le_fold_max]
    exact Or.inr ⟨s, hs, by rw [show Gat.peak f = f s from h]⟩

/-- The running minimum of 1024 reals from infinity is the smallest. -/
theorem fold_min (f : Fin 1024 → ℝ) :
    Finset.fold min (⊤ : EReal) (fun s => ((f s : ℝ) : EReal)) univ = ((Gat.trough f : ℝ) : EReal) := by
  refine le_antisymm ?_ ?_
  · obtain ⟨s, hs, h⟩ := Finset.exists_mem_eq_inf' (s := (univ : Finset (Fin 1024))) ⟨0, mem_univ _⟩ f
    rw [Finset.fold_min_le]
    exact Or.inr ⟨s, hs, by rw [show Gat.trough f = f s from h]⟩
  · rw [Finset.le_fold_min]
    exact ⟨le_top, fun s _ => EReal.coe_le_coe_iff.mpr (Gat.trough_le f s)⟩

end Cert.Reals

end
-- ==== Proof.KernelValue.lean ====
/-
  What the kernel's layer computes on arrays of reals: `heads_value` says that its four heads add up to the attention layer
  of `Gat`, where the bound 75 does not bind.
-/
module

public import proofs.«01_k».proof.Proof.KernelLayer
public import proofs.«01_k».proof.Proof.Consts
public import proofs.«01_k».proof.Proof.Reals
public import Idealize.ShloMosaic.Lib.Pointwise

@[expose] public section

set_option maxRecDepth 16384

noncomputable section

namespace Cert.KernelNet

open Cert.KernelIdeal Cert.KernelIdeal.Gen Idealize.ShloMosaic Cert.Gat

section Layer

variable {h : FVec Ideal S1024x64 .f32} {W : FVec Ideal S64x256 .f32} {av dv : FVec Ideal S4x64 .f32}
  {H : Fin 1024 → Fin 64 → ℝ} {w : Fin 64 → Fin 256 → ℝ} {a b : Fin 4 → Fin 64 → ℝ}

/-- A row of the kernel's folded attention vectors, on reals. -/
theorem row_value (hW : ∀ j c, W (ix2 j c) = ((w j c : ℝ) : EReal)) (ha : ∀ k d, av (ix2 k d) = ((a k d : ℝ) : EReal))
    (k : Fin 4) (j : Fin 64) : row k W av (ix2 0 j) = ((∑ d, a k d * w j (col k d) : ℝ) : EReal) := by
  pointwise [row]
  simp only [ha, hW]
  exact Reals.sum_mul (fun d => a k d) (fun d => w j (col k d))

/-- The rows one under the other, at an index. -/
theorem rows_at (W : FVec Ideal S64x256 .f32) (av : FVec Ideal S4x64 .f32) (k : Fin 4) (j : Fin 64) :
    rows W av (ix2 k j) = row k W av (ix2 0 j) := by
  fin_cases k <;> pointwise [rows]

/-- The source scores, on reals. -/
theorem src_value (hh : ∀ n j, h (ix2 n j) = ((H n j : ℝ) : EReal)) (hW : ∀ j c, W (ix2 j c) = ((w j c : ℝ) : EReal))
    (ha : ∀ k d, av (ix2 k d) = ((a k d : ℝ) : EReal)) (k : Fin 4) (n : Fin 1024) :
    src h W av (ix2 k n) = ((score H w a n k : ℝ) : EReal) := by
  pointwise [src]
  simp only [rows_at, row_value hW ha, hh]
  rw [← score_assoc]
  exact Reals.sum_mul (fun j => ∑ d, a k d * w j (col k d)) (fun j => H n j)

/-- The destination scores, on reals. -/
theorem dst_value (hh : ∀ n j, h (ix2 n j) = ((H n j : ℝ) : EReal)) (hW : ∀ j c, W (ix2 j c) = ((w j c : ℝ) : EReal))
    (ha : ∀ k d, av (ix2 k d) = ((a k d : ℝ) : EReal)) (k : Fin 4) (n : Fin 1024) :
    dst h W av (ix2 n k) = ((score H w a n k : ℝ) : EReal) := by
  pointwise [dst]
  simp only [rows_at, row_value hW ha, hh]
  rw [← score_assoc, Finset.sum_congr rfl fun j _ => mul_comm (∑ d, a k d * w j (col k d)) (H n j)]
  exact Reals.sum_mul (fun j => H n j) (fun j => ∑ d, a k d * w j (col k d))

/-- The projected features, on reals. -/
theorem feat_value (hh : ∀ n j, h (ix2 n j) = ((H n j : ℝ) : EReal)) (hW : ∀ j c, W (ix2 j c) = ((w j c : ℝ) : EReal))
    (n : Fin 1024) (k : Fin 4) (d : Fin 64) : feat h W (ix2 n (col k d)) = ((proj H w n k d : ℝ) : EReal) := by
  pointwise [feat]
  simp only [hh, hW]
  exact Reals.sum_mul (fun j => H n j) (fun j => w j (col k d))

end Layer

section Scores

variable {S : FVec Ideal S4x1024 .f32} {T : FVec Ideal S1024x4 .f32} {s : Fin 1024 → Fin 4 → ℝ} {t : Fin 1024 → Fin 4 → ℝ}

/-- The largest score of a head, on reals. -/
theorem top_value (hS : ∀ k n, S (ix2 k n) = ((s n k : ℝ) : EReal)) (k : Fin 4) :
    top S (ix2 k 0) = ((peak fun n => s n k : ℝ) : EReal) := by
  pointwise [top]
  simp only [hS, Consts.neg_inf]
  exact Reals.fold_max _

/-- The smallest score of a head, on reals. -/
theorem low_value (hS : ∀ k n, S (ix2 k n) = ((s n k : ℝ) : EReal)) (k : Fin 4) :
    low S (ix2 k 0) = ((trough fun n => s n k : ℝ) : EReal) := by
  pointwise [low]
  simp only [hS, Consts.pos_inf]
  exact Reals.fold_min _

/-- The capped range of a head's scores, on reals. -/
theorem cap_value (hS : ∀ k n, S (ix2 k n) = ((s n k : ℝ) : EReal)) (k : Fin 4) :
    cap S (ix2 k 0) = ((min ((peak fun n => s n k) - trough fun n => s n k) 75 : ℝ) : EReal) := by
  pointwise [cap]
  rw [top_value hS, low_value hS, Consts.seventy_five, ← EReal.coe_sub, Reals.min_coe]

/-- A column laid out as a row, at an index. -/
theorem across_at (C : FVec Ideal S4x1 .f32) (k : Fin 4) : across C (ix2 0 k) = C (ix2 k 0) := by
  fin_cases k <;> pointwise [across]

/-- The factor of a destination, on reals. -/
theorem gain_value (hS : ∀ k n, S (ix2 k n) = ((s n k : ℝ) : EReal)) (hT : ∀ k n, T (ix2 n k) = ((t n k : ℝ) : EReal))
    (k : Fin 4) (n : Fin 1024) :
    gain S T (ix2 n k) = ((Real.exp (4 / 5 * min (t n k + peak fun n => s n k)
      (min ((peak fun n => s n k) - trough fun n => s n k) 75)) : ℝ) : EReal) := by
  pointwise [gain]
  rw [across_at, across_at, top_value hS, cap_value hS, hT, Consts.rest, ← EReal.coe_add, Reals.min_coe, ← EReal.coe_mul]
  rfl

/-- A head's scores less their largest, at an index. -/
theorem shift_value (hS : ∀ k n, S (ix2 k n) = ((s n k : ℝ) : EReal)) (k : Fin 4) (n : Fin 1024) :
    shift k S (ix2 0 n) = ((s n k - peak fun n => s n k : ℝ) : EReal) := by
  rw [EReal.coe_sub, ← hS, ← top_value hS]
  pointwise [shift]

/-- The weights, on reals. -/
theorem weights_value (hS : ∀ k n, S (ix2 k n) = ((s n k : ℝ) : EReal))
    (hT : ∀ k n, T (ix2 n k) = ((t n k : ℝ) : EReal)) (k : Fin 4) (i j : Fin 1024) :
    weights k S T (ix2 i j)
      = ((kernelWeight (peak fun n => s n k) (trough fun n => s n k) (t i k) (s j k) : ℝ) : EReal) := by
  pointwise [weights]
  rw [shift_value hS, gain_value hS hT, Consts.slope, ← EReal.coe_mul, Ideal.exp_coe, Ideal.exp_coe, ← EReal.coe_mul,
    Reals.max_coe]
  rfl

end Scores

section Mean

variable {N : FVec Ideal S1024x65 .f32} {q : FVec Ideal S1024x1024 .bf16} {X : FVec Ideal S1024x256 .bf16}
  {v : Fin 1024 → Fin 1024 → ℝ} {f : Fin 1024 → Fin 4 → Fin 64 → ℝ}

/-- A numerator, on reals. -/
theorem numerator_value (hq : ∀ i j, q (ix2 i j) = ((v i j : ℝ) : EReal))
    (hX : ∀ n k d, X (ix2 n (col k d)) = ((f n k d : ℝ) : EReal)) (k : Fin 4) (i : Fin 1024) (d : Fin 64) :
    sums q (tail k X) (ix2 i ⟨d, by omega⟩) = ((∑ j, v i j * f j k d : ℝ) : EReal) := by
  pointwise [sums, tail]
  simp only [hq, d.isLt, dif_pos]
  exact (Finset.sum_congr rfl fun x _ => congrArg (((v i x : ℝ) : EReal) * ·) (hX x k d)).trans
    (Reals.sum_mul (fun j => v i j) (fun j => f j k d))

/-- The denominator, on reals. -/
theorem denominator_value (hq : ∀ i j, q (ix2 i j) = ((v i j : ℝ) : EReal)) (k : Fin 4) (i : Fin 1024) :
    sums q (tail k X) (ix2 i 64) = ((∑ j, v i j * 4 : ℝ) : EReal) := by
  pointwise [sums, tail]
  simp only [hq, Consts.four_short]
  exact Reals.sum_mul (fun j => v i j) (fun _ => 4)

/-- A quotient of the sums, on reals. -/
theorem ratio_value (hq : ∀ i j, q (ix2 i j) = ((v i j : ℝ) : EReal)) (hv : ∀ i j, 0 < v i j)
    (hX : ∀ n k d, X (ix2 n (col k d)) = ((f n k d : ℝ) : EReal)) (k : Fin 4) (i : Fin 1024) (d : Fin 64) :
    ratio (sums q (tail k X)) (ix2 i d) = (((∑ j, v i j * f j k d) / ∑ j, v i j * 4 : ℝ) : EReal) := by
  have hp : 0 < ∑ j, v i j * 4 := sum_pos' _ fun j => mul_pos (hv i j) (by norm_num)
  rw [← Reals.div_coe _ _ hp, ← numerator_value hq hX, ← denominator_value (X := X) hq k i]
  generalize sums q (tail k X) = N
  pointwise [ratio]

end Mean

section Layer

variable {h : FVec Ideal S1024x64 .f32} {W : FVec Ideal S64x256 .f32} {av dv : FVec Ideal S4x64 .f32}
  {H : Fin 1024 → Fin 64 → ℝ} {w : Fin 64 → Fin 256 → ℝ} {a b : Fin 4 → Fin 64 → ℝ}

/-- The kernel's weight is positive. -/
theorem kernelWeight_pos (p l y x : ℝ) : 0 < kernelWeight p l y x := lt_max_of_lt_right (Real.exp_pos _)

/-- One head of the kernel is a quarter of the head's weighted mean. -/
theorem head_value (hh : ∀ n j, h (ix2 n j) = ((H n j : ℝ) : EReal)) (hW : ∀ j c, W (ix2 j c) = ((w j c : ℝ) : EReal))
    (ha : ∀ k d, av (ix2 k d) = ((a k d : ℝ) : EReal)) (hb : ∀ k d, dv (ix2 k d) = ((b k d : ℝ) : EReal))
    (hw : Within H w a b) (k : Fin 4) (i : Fin 1024) (d : Fin 64) :
    head k h W av dv (ix2 i d) = ((mean H w a b i k d / 4 : ℝ) : EReal) := by
  unfold head
  rw [ratio_value (fun i j => weights_value (src_value hh hW ha) (dst_value hh hW hb) k i j)
    (fun i j => kernelWeight_pos _ _ _ _) (feat_value hh hW) k i d, kernel_head H w a b hw i k d _ fun _ => rfl]

/-- The kernel's heads add up to the attention layer. -/
theorem heads_value (hh : ∀ n j, h (ix2 n j) = ((H n j : ℝ) : EReal)) (hW : ∀ j c, W (ix2 j c) = ((w j c : ℝ) : EReal))
    (ha : ∀ k d, av (ix2 k d) = ((a k d : ℝ) : EReal)) (hb : ∀ k d, dv (ix2 k d) = ((b k d : ℝ) : EReal))
    (hw : Within H w a b) (i : Fin 1024) (d : Fin 64) :
    heads h W av dv (ix2 i d) = ((gat H w a b i d : ℝ) : EReal) := by
  pointwise [heads]
  simp only [head_value hh hW ha hb hw]
  rw [← EReal.coe_add, ← EReal.coe_add, ← EReal.coe_add, gat, Fin.sum_univ_four]
  congr 1; ring

end Layer

end Cert.KernelNet

end
-- ==== Proof.ReferenceLayer.lean ====
/-
  The reference's network, written once as functions of whole arrays, and the reference's named values as these functions:
  both layers are the one function `aggregate`.
-/
module

public import proofs.«01_k».proof.Proof.Gen.ReferenceIdeal.Run

@[expose] public section

set_option maxRecDepth 16384

noncomputable section

namespace Cert.RefNet

open Cert.ReferenceIdeal Cert.ReferenceIdeal.Gen Cert.ReferenceIdeal.Value Idealize.ShloMosaic

variable {F : FTy → Type} [FloatOps F]

/-- A bias added to every row, and the negative part cut off. -/
def act (x : FVec F S1024x64 .f32) (b : FVec F S64 .f32) : FVec F S1024x64 .f32 :=
  maximumf (addf x (broadcastInDim S1024x64 ![0, 1] bcast_S1x64_S1024x64_0_1 (broadcastInDim S1x64 ![1] bcast_S64_S1x64_1 b)))
    (broadcastInDim S1024x64 ![] bcast_S_S1024x64 (constant S_ .f32 0x00000000#32))

/-- The embedding. -/
def embed (x : FVec F S1024x256 .f32) (We : FVec F S256x64 .f32) (be : FVec F S64 .f32) : FVec F S1024x64 .f32 :=
  act (Host.dotGeneral dot_S1024x256_S256x64_S1024x64_1_0_0_1_n_n none x We) be

/-- The projected features: node, head, feature. -/
def feats (h : FVec F S1024x64 .f32) (W : FVec F S64x256 .f32) : FVec F S1024x4x64 .f32 :=
  shapeCast _ (Host.dotGeneral dot_S1024x64_S64x256_S1024x256_1_0_0_1_n_n none h W) shapeCasts_S1024x256_S1024x4x64

/-- The scores of the nodes at the heads. -/
def scores (X : FVec F S1024x4x64 .f32) (a : FVec F S4x64 .f32) : FVec F S1024x4 .f32 :=
  Host.reduceAdd (mulf X (broadcastInDim S1024x4x64 ![0, 1, 2] bcast_S1x4x64_S1024x4x64_0_1_2
    (broadcastInDim S1x4x64 ![1, 2] bcast_S4x64_S1x4x64_1_2 a))) (constant S_ .f32 0x00000000#32)
    reducesTo_S1024x4x64_S1024x4_d2 h_S_

/-- The score of every source and destination at every head. -/
def pairs (S T : FVec F S1024x4 .f32) : FVec F S1024x1024x4 .f32 :=
  addf (broadcastInDim S1024x1024x4 ![0, 1, 2] bcast_S1024x1x4_S1024x1024x4_0_1_2
      (broadcastInDim S1024x1x4 ![0, 2] bcast_S1024x4_S1024x1x4_0_2 S))
    (broadcastInDim S1024x1024x4 ![0, 1, 2] bcast_S1x1024x4_S1024x1024x4_0_1_2
      (broadcastInDim S1x1024x4 ![1, 2] bcast_S1024x4_S1x1024x4_1_2 T))

/-- The leaky ramp. -/
def leaky (E : FVec F S1024x1024x4 .f32) : FVec F S1024x1024x4 .f32 :=
  select (cmpf .oge E (broadcastInDim S1024x1024x4 ![] bcast_S_S1024x1024x4 (constant S_ .f32 0x00000000#32))) E
    (mulf (broadcastInDim S1024x1024x4 ![] bcast_S_S1024x1024x4
      (Host.divf (constant S_ .f32 0x3F800000#32) (constant S_ .f32 0x40A00000#32))) E)

/-- The largest over the sources. -/
def peaks (L : FVec F S1024x1024x4 .f32) : FVec F S1024x4 .f32 :=
  maximumf (broadcastInDim S1024x4 ![] bcast_S_S1024x4 (constant S_ .f32 0xFF800000#32))
    (Host.reduce FloatOps.maximumf L (constant S_ .f32 0xFF800000#32) reducesTo_S1024x1024x4_S1024x4_d0 h_S_)

/-- The numerators of the softmax over the sources. -/
def expo (L : FVec F S1024x1024x4 .f32) : FVec F S1024x1024x4 .f32 :=
  Host.exp (subf L (broadcastInDim S1024x1024x4 ![0, 1, 2] bcast_S1x1024x4_S1024x1024x4_0_1_2
    (broadcastInDim S1x1024x4 ![1, 2] bcast_S1024x4_S1x1024x4_1_2 (peaks L))))

/-- The denominators of the softmax. -/
def total (N : FVec F S1024x1024x4 .f32) : FVec F S1024x4 .f32 :=
  Host.reduceAdd N (constant S_ .f32 0x00000000#32) reducesTo_S1024x1024x4_S1024x4_d0 h_S_

/-- The softmax over the sources. -/
def share (N : FVec F S1024x1024x4 .f32) : FVec F S1024x1024x4 .f32 :=
  Host.divf N (broadcastInDim S1024x1024x4 ![0, 1, 2] bcast_S1x1024x4_S1024x1024x4_0_1_2
    (broadcastInDim S1x1024x4 ![1, 2] bcast_S1024x4_S1x1024x4_1_2 (total N)))

/-- The features weighed by the softmax, at every head. -/
def mixed (X : FVec F S1024x4x64 .f32) (A : FVec F S1024x1024x4 .f32) : FVec F S1024x4x64 .f32 :=
  transpose S1024x4x64 [2, 0, 1] (Host.dotGeneral dot_S1024x4x64_S1024x1024x4_S4x64x1024_0_0_2_1_1_2 none X A)
    transposes_S4x64x1024_S1024x4x64_2_0_1

/-- The mean over the heads. -/
def average (Y : FVec F S1024x4x64 .f32) : FVec F S1024x64 .f32 :=
  Host.divf (Host.reduceAdd Y (constant S_ .f32 0x00000000#32) reducesTo_S1024x4x64_S1024x64_d1 h_S_)
    (broadcastInDim S1024x64 ![] bcast_S_S1024x64 (constant S_ .f32 0x40800000#32))

/-- One layer without its bias. -/
def aggregate (h : FVec F S1024x64 .f32) (W : FVec F S64x256 .f32) (av dv : FVec F S4x64 .f32) : FVec F S1024x64 .f32 :=
  average (mixed (feats h W) (share (expo (leaky (pairs (scores (feats h W) av) (scores (feats h W) dv))))))

/-- The hidden features that the output maps read. -/
def hidden (x : FVec F S1024x256 .f32) (We : FVec F S256x64 .f32) (be : FVec F S64 .f32) (W1 : FVec F S64x256 .f32)
    (as1 ad1 : FVec F S4x64 .f32) (b1 : FVec F S64 .f32) (W2 : FVec F S64x256 .f32) (as2 ad2 : FVec F S4x64 .f32)
    (b2 : FVec F S64 .f32) : FVec F S1024x64 .f32 :=
  act (aggregate (act (aggregate (embed x We be) W1 as1 ad1) b1) W2 as2 ad2) b2

/-- The action scores clipped to `[-5, 5]`. -/
def clipped (h : FVec F S1024x64 .f32) (Wa : FVec F S64x2 .f32) (ba : FVec F S2 .f32) : FVec F S1024x2 .f32 :=
  minimumf (broadcastInDim S1024x2 ![] bcast_S_S1024x2 (id (constant S_ .f32 0x40A00000#32)))
    (maximumf (broadcastInDim S1024x2 ![] bcast_S_S1024x2 (id (constant S_ .f32 0xC0A00000#32)))
      (addf (Host.dotGeneral dot_S1024x64_S64x2_S1024x2_1_0_0_1_n_n none h Wa)
        (broadcastInDim S1024x2 ![0, 1] bcast_S1x2_S1024x2_0_1 (broadcastInDim S1x2 ![1] bcast_S2_S1x2_1 ba))))

/-- The logits: the first clipped column as it is, the second made absolute. -/
def logits (y : FVec F S1024x2 .f32) : FVec F S1024x2 .f32 :=
  concatenate S1024x2 1 [⟨S1024x1, extractStridedSlice S1024x1 ![0, 0] y slices_S1024x2_S1024x1_0_0⟩,
    ⟨S1024x1, Host.absf (extractStridedSlice S1024x1 ![0, 1] y slices_S1024x2_S1024x1_0_1)⟩]
    concatenates_S1024x1_S1024x1_S1024x2_d1

/-- The values. -/
def values (h : FVec F S1024x64 .f32) (Wc : FVec F S64x1 .f32) (bc : FVec F S1 .f32) : FVec F S1024 .f32 :=
  shapeCast _ (addf (Host.dotGeneral dot_S1024x64_S64x1_S1024x1_1_0_0_1_n_n none h Wc)
    (broadcastInDim S1024x1 ![0, 1] bcast_S1x1_S1024x1_0_1 (broadcastInDim S1x1 ![1] bcast_S1_S1x1_1 bc)))
    shapeCasts_S1024x1_S1024

/-! ## The reference's named values are these functions -/

variable (V : Valuation τ sig (Elt F))

/-- The projected features of the first layer. -/
theorem first_feats : res_main_v6 V = feats (embed (V (Proc.devRef .tc main_arg0)) (V (Proc.devRef .tc main_arg1))
    (V (Proc.devRef .tc main_arg2))) (V (Proc.devRef .tc main_arg3)) := rfl

/-- The projected features of the second layer. -/
theorem second_feats : res_main_v43 V = feats (act (aggregate (embed (V (Proc.devRef .tc main_arg0))
    (V (Proc.devRef .tc main_arg1)) (V (Proc.devRef .tc main_arg2))) (V (Proc.devRef .tc main_arg3))
    (V (Proc.devRef .tc main_arg4)) (V (Proc.devRef .tc main_arg5))) (V (Proc.devRef .tc main_arg6)))
    (V (Proc.devRef .tc main_arg7)) := by
  unfold res_main_v43 res_main_v28 res_main_v21 res_main_v19
  rw [first_feats]
  rfl

/-- The features that the output maps read. -/
theorem hidden_eq : res_main_v78 V = hidden (V (Proc.devRef .tc main_arg0)) (V (Proc.devRef .tc main_arg1))
    (V (Proc.devRef .tc main_arg2)) (V (Proc.devRef .tc main_arg3)) (V (Proc.devRef .tc main_arg4))
    (V (Proc.devRef .tc main_arg5)) (V (Proc.devRef .tc main_arg6)) (V (Proc.devRef .tc main_arg7))
    (V (Proc.devRef .tc main_arg8)) (V (Proc.devRef .tc main_arg9)) (V (Proc.devRef .tc main_arg10)) := by
  unfold res_main_v78 res_main_v65 res_main_v58 res_main_v56 hidden
  rw [second_feats]
  generalize act (F := F) (aggregate (embed _ _ _) _ _ _) _ = h
  rfl

/-- The clipped action scores. -/
theorem clipped_eq : res_main_v83 V = clipped (res_main_v78 V) (V (Proc.devRef .tc main_arg11))
    (V (Proc.devRef .tc main_arg12)) := rfl

end Cert.RefNet

end
-- ==== Proof.ReferenceValue.lean ====
/-
  What the reference's layer computes on arrays of reals: `aggregate_value` says that it is the attention layer of `Gat`.
-/
module

public import proofs.«01_k».proof.Proof.ReferenceLayer
public import proofs.«01_k».proof.Proof.Consts
public import proofs.«01_k».proof.Proof.Reals
public import Idealize.ShloMosaic.Lib.Pointwise

@[expose] public section

set_option maxRecDepth 16384

noncomputable section

namespace Cert.RefNet

open Cert.ReferenceIdeal Cert.ReferenceIdeal.Gen Idealize.ShloMosaic Cert.Gat

/-- A maximum over the first of three axes, at an index: the running maximum along that axis. -/
theorem reduce_max {m n p : ℕ} {u : Shape} (x : FVec Ideal ⟨3, ![m, n, p]⟩ .f32) (init : FVec Ideal u .f32)
    (hr : (⟨3, ![m, n, p]⟩ : Shape).ReducesTo [0] ⟨2, ![n, p]⟩) (hu : 0 < u.numel) (i : Fin n) (j : Fin p) :
    Host.reduce FloatOps.maximumf x init hr hu (ix2 i j)
      = (Finset.univ : Finset (Fin m)).fold max (init (Shape.Idx.first hu)) fun k => x (ix3 k i j) :=
  (Host.reduce_eq_fold _ _ _ _ _ _).trans (hr.fold_fiber_r3_a0 _ _ _ _)

/-- The larger of two arrays, at an index. -/
theorem max_at {u : Shape} (x y : FVec Ideal u .f32) (i : u.Idx) : maximumf x y i = max (x i) (y i) := rfl

section Layer

variable {h : FVec Ideal S1024x64 .f32} {W : FVec Ideal S64x256 .f32} {av dv : FVec Ideal S4x64 .f32}
  {H : Fin 1024 → Fin 64 → ℝ} {w : Fin 64 → Fin 256 → ℝ} {a b : Fin 4 → Fin 64 → ℝ}

/-- The projected features, on reals. -/
theorem feats_value (hh : ∀ n j, h (ix2 n j) = ((H n j : ℝ) : EReal)) (hW : ∀ j c, W (ix2 j c) = ((w j c : ℝ) : EReal))
    (n : Fin 1024) (k : Fin 4) (d : Fin 64) : feats h W (ix3 n k d) = ((proj H w n k d : ℝ) : EReal) := by
  have hc : (⟨(k : ℕ) * 64 + (d : ℕ), by omega⟩ : Fin 256) = col k d := Fin.ext (by simp only [col]; omega)
  pointwise [feats]
  simp only [hh, hW, hc]
  exact Reals.sum_mul (fun j => H n j) (fun j => w j (col k d))

/-- The scores, on reals. -/
theorem scores_value (hh : ∀ n j, h (ix2 n j) = ((H n j : ℝ) : EReal))
    (hW : ∀ j c, W (ix2 j c) = ((w j c : ℝ) : EReal)) (ha : ∀ k d, av (ix2 k d) = ((a k d : ℝ) : EReal))
    (n : Fin 1024) (k : Fin 4) : scores (feats h W) av (ix2 n k) = ((score H w a n k : ℝ) : EReal) := by
  pointwise [scores]
  simp only [feats_value hh hW, ha]
  exact Reals.sum_mul (fun d => proj H w n k d) (fun d => a k d)

end Layer

section Softmax

variable {E : FVec Ideal S1024x1024x4 .f32} {e : Fin 1024 → Fin 1024 → Fin 4 → ℝ}

/-- The leaky ramp, on reals. -/
theorem leaky_value (hE : ∀ s t k, E (ix3 s t k) = ((e s t k : ℝ) : EReal)) (s t : Fin 1024) (k : Fin 4) :
    leaky E (ix3 s t k) = ((bend (e s t k) : ℝ) : EReal) := by
  pointwise [leaky]
  rw [hE, Consts.five, ← EReal.coe_one, Reals.div_coe _ _ (by norm_num), ← EReal.coe_mul, bend]
  by_cases h : 0 ≤ e s t k
  · rw [if_pos h, if_pos (EReal.coe_nonneg.mpr h)]
  · rw [if_neg h, if_neg (fun h' => h (EReal.coe_nonneg.mp h'))]
    congr 1; ring

/-- The largest over the sources, on reals. -/
theorem peaks_value (hE : ∀ s t k, E (ix3 s t k) = ((e s t k : ℝ) : EReal)) (t : Fin 1024) (k : Fin 4) :
    peaks E (ix2 t k) = ((peak fun s => e s t k : ℝ) : EReal) := by
  have hb : (broadcastInDim S1024x4 ![] bcast_S_S1024x4 (constant S_ .f32 0xFF800000#32) : FVec Ideal S1024x4 .f32)
      (ix2 t k) = Ideal.ofBits .f32 0xFF800000#32 := rfl
  have hi : (constant S_ .f32 0xFF800000#32 : FVec Ideal S_ .f32) (Shape.Idx.first h_S_)
      = Ideal.ofBits .f32 0xFF800000#32 := rfl
  unfold peaks
  rw [max_at, reduce_max, hb, hi, Consts.neg_inf, max_bot_left, ← Reals.fold_max]
  simp only [hE]

/-- The softmax's numerators, on reals. -/
theorem expo_value (hE : ∀ s t k, E (ix3 s t k) = ((e s t k : ℝ) : EReal)) (s t : Fin 1024) (k : Fin 4) :
    expo E (ix3 s t k) = ((Real.exp (e s t k - peak fun s => e s t k) : ℝ) : EReal) := by
  pointwise [expo]
  rw [peaks_value hE, hE, ← EReal.coe_sub, Ideal.exp_coe]

/-- The softmax, on reals. -/
theorem share_value (hE : ∀ s t k, E (ix3 s t k) = ((e s t k : ℝ) : EReal)) (hp : ∀ s t k, 0 < e s t k)
    (s t : Fin 1024) (k : Fin 4) : share E (ix3 s t k) = ((e s t k / ∑ s, e s t k : ℝ) : EReal) := by
  pointwise [share, total]
  simp only [hE]
  rw [← Reals.coe_sum, Reals.div_coe _ _ (sum_pos' _ fun s => hp s t k)]

end Softmax

section Layer

variable {h : FVec Ideal S1024x64 .f32} {W : FVec Ideal S64x256 .f32} {av dv : FVec Ideal S4x64 .f32}
  {H : Fin 1024 → Fin 64 → ℝ} {w : Fin 64 → Fin 256 → ℝ} {a b : Fin 4 → Fin 64 → ℝ}

/-- The scores of the pairs, on reals. -/
theorem pairs_value (hh : ∀ n j, h (ix2 n j) = ((H n j : ℝ) : EReal)) (hW : ∀ j c, W (ix2 j c) = ((w j c : ℝ) : EReal))
    (ha : ∀ k d, av (ix2 k d) = ((a k d : ℝ) : EReal)) (hb : ∀ k d, dv (ix2 k d) = ((b k d : ℝ) : EReal))
    (s t : Fin 1024) (k : Fin 4) : pairs (scores (feats h W) av) (scores (feats h W) dv) (ix3 s t k)
      = ((score H w a s k + score H w b t k : ℝ) : EReal) := by
  rw [EReal.coe_add, ← scores_value hh hW ha, ← scores_value hh hW hb]
  generalize scores (feats h W) av = S
  generalize scores (feats h W) dv = T
  pointwise [pairs]

/-- The features weighed by the softmax are the head's weighted mean: the factor by which the softmax scales its weights
    cancels. -/
theorem mixed_value (hh : ∀ n j, h (ix2 n j) = ((H n j : ℝ) : EReal)) (hW : ∀ j c, W (ix2 j c) = ((w j c : ℝ) : EReal))
    (ha : ∀ k d, av (ix2 k d) = ((a k d : ℝ) : EReal)) (hb : ∀ k d, dv (ix2 k d) = ((b k d : ℝ) : EReal))
    (t : Fin 1024) (k : Fin 4) (d : Fin 64) :
    mixed (feats h W) (share (expo (leaky (pairs (scores (feats h W) av) (scores (feats h W) dv))))) (ix3 t k d)
      = ((mean H w a b t k d : ℝ) : EReal) := by
  have hs := share_value (expo_value (leaky_value (pairs_value hh hW ha hb))) fun _ _ _ => Real.exp_pos _
  have hf := feats_value hh hW
  generalize share (F := Ideal) _ = A at hs ⊢
  generalize feats h W = X at hf ⊢
  pointwise [mixed]
  simp only [hs, hf]
  rw [Reals.sum_mul]
  congr 1
  set M : ℝ := peak fun s => bend (score H w a s k + score H w b t k) with hM
  rw [mean, ← weighted_mean (Real.exp (-M)) (Real.exp_pos _) (fun s => weight H w a b s t k)
    (fun s => Real.exp (bend (score H w a s k + score H w b t k) - M)) (fun s => proj H w s k d)
    (fun s => by rw [weight, ← Real.exp_add]; congr 1; ring), Finset.sum_div]
  exact Finset.sum_congr rfl fun s _ => by ring

/-- The reference's layer without its bias is the attention layer. -/
theorem aggregate_value (hh : ∀ n j, h (ix2 n j) = ((H n j : ℝ) : EReal))
    (hW : ∀ j c, W (ix2 j c) = ((w j c : ℝ) : EReal)) (ha : ∀ k d, av (ix2 k d) = ((a k d : ℝ) : EReal))
    (hb : ∀ k d, dv (ix2 k d) = ((b k d : ℝ) : EReal)) (t : Fin 1024) (d : Fin 64) :
    aggregate h W av dv (ix2 t d) = ((gat H w a b t d : ℝ) : EReal) := by
  have hm := mixed_value hh hW ha hb
  unfold aggregate
  generalize mixed (F := Ideal) _ _ = Y at hm ⊢
  pointwise [average]
  simp only [hm]
  rw [← Reals.coe_sum, Consts.four, Reals.div_coe _ _ (by norm_num)]
  rfl

end Layer

end Cert.RefNet

end
-- ==== Proof.PreLayer.lean ====
/-
  The precondition `in_range`, written once as functions of whole arrays, and what its being true says: what each layer
  reads has real entries, and in both layers the bound 75 does not bind.
-/
module

public import proofs.«01_k».proof.Pre_in_range
public import proofs.«01_k».proof.Proof.ReferenceValue
public import Idealize.ShloMosaic.Lib.ReduceAll

@[expose] public section

set_option maxRecDepth 16384

noncomputable section

namespace Cert.PreNet

open Cert.Pre_in_range Idealize.ShloMosaic Cert.Gat

/-! ## The side conditions of the precondition's operations -/

/-- Every side condition that the precondition states holds. -/
instance facts : Cert.Pre_in_range.Facts := by
  constructor <;> decide

open Cert.Pre_in_range.Facts

/-! ## The precondition's functions -/

section Generic

variable {F : FTy → Type} [FloatOps F]

/-- Whether every entry of an array is finite. -/
def finite {u : Shape} {axes : List (Fin u.rank)} (hb : S_.BroadcastsInDim u (![] : Fin 0 → Fin u.rank))
    (hr : u.ReducesTo axes S_) (a : FVec F u .f32) : IVec S_ 1 :=
  Host.reduce IntOp.andi (cmpf .olt (Host.absf a) (broadcastInDim u ![] hb (constant S_ .f32 0x7F800000#32)))
    (constantI S_ 1 1#1) hr h_S_

/-- The projected features: node, head, feature. -/
def feats (h : FVec F S1024x64 .f32) (W : FVec F S64x256 .f32) : FVec F S1024x4x64 .f32 :=
  Host.dotGeneral dot_S1024x64_S64x4x64_S1024x4x64_1_0_0_12_n_n none h
    (shapeCast S64x4x64 W shapeCasts_S64x256_S64x4x64)

/-- Per head, the largest score. -/
def highest (S : FVec F S1024x4 .f32) : FVec F S4 .f32 :=
  Host.reduce FloatOps.maximumf S (constant S_ .f32 0xFF800000#32) reducesTo_S1024x4_S4_d0 h_S_

/-- Per head, the smallest score. -/
def lowest (S : FVec F S1024x4 .f32) : FVec F S4 .f32 :=
  Host.reduce FloatOps.minimumf S (constant S_ .f32 0x7F800000#32) reducesTo_S1024x4_S4_d0 h_S_

/-- What must stay below 75, from the destination scores and the largest and smallest source scores. -/
def bounded (T : FVec F S1024x4 .f32) (P L : FVec F S4 .f32) : FVec F S1024x4 .f32 :=
  minimumf (addf T (broadcastInDim S1024x4 ![0, 1] bcast_S1x4_S1024x4_0_1 (broadcastInDim S1x4 ![1] bcast_S4_S1x4_1 P)))
    (broadcastInDim S1024x4 ![0, 1] bcast_S1x4_S1024x4_0_1
      (subf (broadcastInDim S1x4 ![1] bcast_S4_S1x4_1 P) (broadcastInDim S1x4 ![1] bcast_S4_S1x4_1 L)))

/-- Whether every entry of an array is at most 75. -/
def small (X : FVec F S1024x4 .f32) : IVec S_ 1 :=
  Host.reduce IntOp.andi (cmpf .ole X (broadcastInDim S1024x4 ![] bcast_S_S1024x4 (constant S_ .f32 0x42960000#32)))
    (constantI S_ 1 1#1) reducesTo_S1024x4_S_d0_1 h_S_

/-- Whether the bound 75 leaves a layer alone. -/
def within (h : FVec F S1024x64 .f32) (W : FVec F S64x256 .f32) (av dv : FVec F S4x64 .f32) : IVec S_ 1 :=
  small (bounded (RefNet.scores (feats h W) dv) (highest (RefNet.scores (feats h W) av))
    (lowest (RefNet.scores (feats h W) av)))

/-- The leaky ramp as a choice. -/
def leaky (E : FVec F S1024x1024x4 .f32) : FVec F S1024x1024x4 .f32 :=
  select (cmpf .oge E (broadcastInDim S1024x1024x4 ![] bcast_S_S1024x1024x4 (constant S_ .f32 0x00000000#32))) E
    (Host.divf E (broadcastInDim S1024x1024x4 ![] bcast_S_S1024x1024x4 (constant S_ .f32 0x40A00000#32)))

/-- The features weighed, added up over the sources and the heads, a quarter of it. -/
def quarter (A : FVec F S1024x1024x4 .f32) (X : FVec F S1024x4x64 .f32) : FVec F S1024x64 .f32 :=
  Host.divf (Host.dotGeneral dot_S1024x1024x4_S1024x4x64_S1024x64_20_10_1_2_n_n none A X)
    (broadcastInDim S1024x64 ![] bcast_S_S1024x64 (constant S_ .f32 0x40800000#32))

/-- The layer without its bias. -/
def aggregate (h : FVec F S1024x64 .f32) (W : FVec F S64x256 .f32) (av dv : FVec F S4x64 .f32) : FVec F S1024x64 .f32 :=
  quarter (RefNet.share (Host.exp (leaky (RefNet.pairs (RefNet.scores (feats h W) av) (RefNet.scores (feats h W) dv)))))
    (feats h W)

/-- The precondition is the two bounds and the eight finiteness tests. -/
theorem fn_eq (a0 : FVec F S1024x256 .f32) (a1 : FVec F S256x64 .f32) (a2 : FVec F S64 .f32) (a3 : FVec F S64x256 .f32)
    (a4 a5 : FVec F S4x64 .f32) (a6 : FVec F S64 .f32) (a7 : FVec F S64x256 .f32) (a8 a9 : FVec F S4x64 .f32)
    (a10 : FVec F S64 .f32) (a11 : FVec F S64x2 .f32) (a12 : FVec F S2 .f32) (a13 : FVec F S64x1 .f32)
    (a14 : FVec F S1 .f32) : fn a0 a1 a2 a3 a4 a5 a6 a7 a8 a9 a10 a11 a12 a13 a14
    = andi (andi (andi (andi (andi (andi (andi (andi (andi
        (within (RefNet.embed a0 a1 a2) a3 a4 a5)
        (within (RefNet.act (aggregate (RefNet.embed a0 a1 a2) a3 a4 a5) a6) a7 a8 a9))
        (finite bcast_S_S1024x64 reducesTo_S1024x64_S_d0_1 (RefNet.embed a0 a1 a2)))
        (finite bcast_S_S64x256 reducesTo_S64x256_S_d0_1 a3)) (finite bcast_S_S4x64 reducesTo_S4x64_S_d0_1 a4))
        (finite bcast_S_S4x64 reducesTo_S4x64_S_d0_1 a5))
        (finite bcast_S_S1024x64 reducesTo_S1024x64_S_d0_1
          (RefNet.act (aggregate (RefNet.embed a0 a1 a2) a3 a4 a5) a6)))
        (finite bcast_S_S64x256 reducesTo_S64x256_S_d0_1 a7)) (finite bcast_S_S4x64 reducesTo_S4x64_S_d0_1 a8))
        (finite bcast_S_S4x64 reducesTo_S4x64_S_d0_1 a9) := rfl

end Generic

/-! ## What they say on reals -/

/-- A maximum over the first of two axes, at an index: the running maximum along that axis. -/
theorem reduce_max {m n : ℕ} {u : Shape} (x : FVec Ideal ⟨2, ![m, n]⟩ .f32) (init : FVec Ideal u .f32)
    (hr : (⟨2, ![m, n]⟩ : Shape).ReducesTo [0] ⟨1, ![n]⟩) (hu : 0 < u.numel) (i : Fin n) :
    Host.reduce FloatOps.maximumf x init hr hu (ix1 i)
      = (Finset.univ : Finset (Fin m)).fold max (init (Shape.Idx.first hu)) fun k => x (ix2 k i) :=
  (Host.reduce_eq_fold _ _ _ _ _ _).trans (hr.fold_fiber_r2_a0 _ _ _ _)

/-- A minimum over the first of two axes, at an index: the running minimum along that axis. -/
theorem reduce_min {m n : ℕ} {u : Shape} (x : FVec Ideal ⟨2, ![m, n]⟩ .f32) (init : FVec Ideal u .f32)
    (hr : (⟨2, ![m, n]⟩ : Shape).ReducesTo [0] ⟨1, ![n]⟩) (hu : 0 < u.numel) (i : Fin n) :
    Host.reduce FloatOps.minimumf x init hr hu (ix1 i)
      = (Finset.univ : Finset (Fin m)).fold min (init (Shape.Idx.first hu)) fun k => x (ix2 k i) :=
  (Host.reduce_eq_fold _ _ _ _ _ _).trans (hr.fold_fiber_r2_a0 _ _ _ _)

/-- A scalar has one index. -/
instance : Subsingleton S_.Idx := ⟨fun _ _ => funext fun k => k.elim0⟩

/-- An extended real whose absolute value is below infinity is real. -/
theorem real_of_abs_lt (x : EReal) (h : max x (-x) < ⊤) : ∃ r : ℝ, x = (r : EReal) := by
  induction x using EReal.rec with
  | bot => exact absurd h (by simp)
  | coe r => exact ⟨r, rfl⟩
  | top => exact absurd h (by simp)

/-- An array that passes the finiteness test has real entries. -/
theorem finite_real {u : Shape} {axes : List (Fin u.rank)} (hb : S_.BroadcastsInDim u (![] : Fin 0 → Fin u.rank))
    (hr : u.ReducesTo axes S_) (a : FVec Ideal u .f32) (h : finite hb hr a ix0 = 1#1) (i : u.Idx) :
    ∃ r : ℝ, a i = (r : EReal) := by
  have hi : Ideal.cmp .olt (max (a i) (-(a i))) (Ideal.ofBits .f32 0x7F800000#32) = 1 :=
    Host.reduce_andi_all _ _ _ _ _ h i
  rw [Ideal.cmp_olt_eq_one, Consts.pos_inf] at hi
  exact real_of_abs_lt _ hi

/-- An array that passes the bound test has entries at most 75. -/
theorem small_le (X : FVec Ideal S1024x4 .f32) (h : small X ix0 = 1#1) (i : S1024x4.Idx) : X i ≤ ((75 : ℝ) : EReal) := by
  have hi : Ideal.cmp .ole (X i) (Ideal.ofBits .f32 0x42960000#32) = 1 := Host.reduce_andi_all _ _ _ _ _ h i
  rwa [Ideal.cmp_ole_eq_one, Consts.seventy_five] at hi

section Scores

variable {S T : FVec Ideal S1024x4 .f32} {s t : Fin 1024 → Fin 4 → ℝ}

/-- The largest score of a head, on reals. -/
theorem highest_value (hS : ∀ n k, S (ix2 n k) = ((s n k : ℝ) : EReal)) (k : Fin 4) :
    highest S (ix1 k) = ((peak fun n => s n k : ℝ) : EReal) := by
  have hi : (constant S_ .f32 0xFF800000#32 : FVec Ideal S_ .f32) (Shape.Idx.first h_S_)
      = Ideal.ofBits .f32 0xFF800000#32 := rfl
  unfold highest
  rw [reduce_max, hi, Consts.neg_inf, ← Reals.fold_max]
  simp only [hS]

/-- The smallest score of a head, on reals. -/
theorem lowest_value (hS : ∀ n k, S (ix2 n k) = ((s n k : ℝ) : EReal)) (k : Fin 4) :
    lowest S (ix1 k) = ((trough fun n => s n k : ℝ) : EReal) := by
  have hi : (constant S_ .f32 0x7F800000#32 : FVec Ideal S_ .f32) (Shape.Idx.first h_S_)
      = Ideal.ofBits .f32 0x7F800000#32 := rfl
  unfold lowest
  rw [reduce_min, hi, Consts.pos_inf, ← Reals.fold_min]
  simp only [hS]

/-- The bounded quantity, on reals. -/
theorem bounded_value (hS : ∀ n k, S (ix2 n k) = ((s n k : ℝ) : EReal)) (hT : ∀ n k, T (ix2 n k) = ((t n k : ℝ) : EReal))
    (n : Fin 1024) (k : Fin 4) : bounded T (highest S) (lowest S) (ix2 n k)
      = ((min (t n k + peak fun n => s n k) ((peak fun n => s n k) - trough fun n => s n k) : ℝ) : EReal) := by
  rw [← Reals.min_coe, EReal.coe_add, EReal.coe_sub, ← highest_value hS, ← lowest_value hS, ← hT]
  generalize highest S = P
  generalize lowest S = L
  pointwise [bounded]

end Scores

section Layer

variable {h : FVec Ideal S1024x64 .f32} {W : FVec Ideal S64x256 .f32} {av dv : FVec Ideal S4x64 .f32}
  {H : Fin 1024 → Fin 64 → ℝ} {w : Fin 64 → Fin 256 → ℝ} {a b : Fin 4 → Fin 64 → ℝ}

/-- The projected features are the reference's. -/
theorem feats_eq (h : FVec Ideal S1024x64 .f32) (W : FVec Ideal S64x256 .f32) : feats h W = RefNet.feats h W := by
  funext i
  idx_vars i
  pointwise [feats, RefNet.feats]

/-- A layer that passes the bound test is within the bound. -/
theorem within_real (hh : ∀ n j, h (ix2 n j) = ((H n j : ℝ) : EReal)) (hW : ∀ j c, W (ix2 j c) = ((w j c : ℝ) : EReal))
    (ha : ∀ k d, av (ix2 k d) = ((a k d : ℝ) : EReal)) (hb : ∀ k d, dv (ix2 k d) = ((b k d : ℝ) : EReal))
    (hw : within h W av dv ix0 = 1#1) : Within H w a b := by
  intro t k
  unfold within at hw
  rw [feats_eq] at hw
  have hs := small_le _ hw (ix2 t k)
  rw [bounded_value (RefNet.scores_value hh hW ha) (RefNet.scores_value hh hW hb)] at hs
  exact EReal.coe_le_coe_iff.mp hs

/-- The leaky ramp, on reals. -/
theorem leaky_value {E : FVec Ideal S1024x1024x4 .f32} {e : Fin 1024 → Fin 1024 → Fin 4 → ℝ}
    (hE : ∀ s t k, E (ix3 s t k) = ((e s t k : ℝ) : EReal)) (s t : Fin 1024) (k : Fin 4) :
    Host.exp (leaky E) (ix3 s t k) = ((Real.exp (bend (e s t k)) : ℝ) : EReal) := by
  pointwise [leaky]
  rw [hE, Consts.five, Reals.div_coe _ _ (by norm_num), bend, ← Ideal.exp_coe]
  by_cases h : 0 ≤ e s t k
  · rw [if_pos h, if_pos (EReal.coe_nonneg.mpr h)]
  · rw [if_neg h, if_neg (fun h' => h (EReal.coe_nonneg.mp h'))]

/-- The precondition's layer without its bias is the attention layer. -/
theorem aggregate_value (hh : ∀ n j, h (ix2 n j) = ((H n j : ℝ) : EReal))
    (hW : ∀ j c, W (ix2 j c) = ((w j c : ℝ) : EReal)) (ha : ∀ k d, av (ix2 k d) = ((a k d : ℝ) : EReal))
    (hb : ∀ k d, dv (ix2 k d) = ((b k d : ℝ) : EReal)) (t : Fin 1024) (d : Fin 64) :
    aggregate h W av dv (ix2 t d) = ((gat H w a b t d : ℝ) : EReal) := by
  have hs := RefNet.share_value (leaky_value (RefNet.pairs_value hh hW ha hb)) fun _ _ _ => Real.exp_pos _
  have hf := RefNet.feats_value hh hW
  unfold aggregate
  rw [feats_eq]
  generalize RefNet.share (F := Ideal) _ = A at hs ⊢
  generalize RefNet.feats h W = X at hf ⊢
  pointwise [quarter]
  simp only [hs, hf]
  rw [Finset.sum_congr rfl fun k _ => Reals.sum_mul (fun s => Real.exp (bend (score H w a s k + score H w b t k))
    / ∑ s, Real.exp (bend (score H w a s k + score H w b t k))) fun s => proj H w s k d, ← Reals.coe_sum, Consts.four,
    Reals.div_coe _ _ (by norm_num), gat]
  congr 2
  refine Finset.sum_congr rfl fun k _ => ?_
  rw [mean, Finset.sum_div]
  exact Finset.sum_congr rfl fun s _ => div_mul_eq_mul_div _ _ _

end Layer

end Cert.PreNet

end
-- ==== Proof.Network.lean ====
/-
  The whole network: under the precondition the kernel's results are the reference's. `hidden_same` carries the layers,
  `logits_same` and `values_same` the output maps.
-/
module

public import proofs.«01_k».proof.Proof.KernelValue
public import proofs.«01_k».proof.Proof.PreLayer

@[expose] public section

set_option maxRecDepth 16384

noncomputable section

namespace Cert.Network

open Cert.KernelIdeal Cert.KernelIdeal.Gen Idealize.ShloMosaic Cert.Gat

/-! ## The embedding and the activation -/

/-- The kernel's activation is the reference's. -/
theorem act_same (y : FVec Ideal S1024x64 .f32) (b : FVec Ideal S64 .f32) : KernelNet.act y b = RefNet.act y b := by
  funext i
  idx_vars i
  pointwise [KernelNet.act, RefNet.act]

/-- The kernel's embedding is the reference's. -/
theorem embed_same (x : FVec Ideal S1024x256 .f32) (We : FVec Ideal S256x64 .f32) (be : FVec Ideal S64 .f32) :
    KernelNet.embed x We be = RefNet.embed x We be := by
  funext i
  idx_vars i
  pointwise [KernelNet.embed, KernelNet.act, RefNet.embed, RefNet.act]

/-- A matrix of real entries, by its entries. -/
theorem real_matrix {m n : ℕ} {a : FVec Ideal ⟨2, ![m, n]⟩ .f32} (h : ∀ i, ∃ r : ℝ, a i = (r : EReal)) :
    ∃ f : Fin m → Fin n → ℝ, ∀ i j, a (ix2 i j) = ((f i j : ℝ) : EReal) :=
  ⟨fun i j => (h (ix2 i j)).choose, fun i j => (h (ix2 i j)).choose_spec⟩

/-! ## The layers -/

section Layer

variable {h : FVec Ideal S1024x64 .f32} {W : FVec Ideal S64x256 .f32} {av dv : FVec Ideal S4x64 .f32}
  {H : Fin 1024 → Fin 64 → ℝ} {w : Fin 64 → Fin 256 → ℝ} {a b : Fin 4 → Fin 64 → ℝ}

/-- Two arrays of the same real entries are the same. -/
theorem same_of_value {y z : FVec Ideal S1024x64 .f32} {Y : Fin 1024 → Fin 64 → ℝ}
    (hy : ∀ n j, y (ix2 n j) = ((Y n j : ℝ) : EReal)) (hz : ∀ n j, z (ix2 n j) = ((Y n j : ℝ) : EReal)) : y = z := by
  funext i
  idx_vars i
  rw [hy, hz]

/-- A layer of the kernel that passes the bound test is the reference's. -/
theorem heads_same (hh : ∀ n j, h (ix2 n j) = ((H n j : ℝ) : EReal)) (hW : ∀ j c, W (ix2 j c) = ((w j c : ℝ) : EReal))
    (ha : ∀ k d, av (ix2 k d) = ((a k d : ℝ) : EReal)) (hb : ∀ k d, dv (ix2 k d) = ((b k d : ℝ) : EReal))
    (hw : PreNet.within h W av dv ix0 = 1#1) : KernelNet.heads h W av dv = RefNet.aggregate h W av dv :=
  same_of_value (KernelNet.heads_value hh hW ha hb (PreNet.within_real hh hW ha hb hw))
    (RefNet.aggregate_value hh hW ha hb)

end Layer

section Whole

variable (a0 : FVec Ideal S1024x256 .f32) (a1 : FVec Ideal S256x64 .f32) (a2 : FVec Ideal S64 .f32)
  (a3 : FVec Ideal S64x256 .f32) (a4 a5 : FVec Ideal S4x64 .f32) (a6 : FVec Ideal S64 .f32)
  (a7 : FVec Ideal S64x256 .f32) (a8 a9 : FVec Ideal S4x64 .f32) (a10 : FVec Ideal S64 .f32)
  (a11 : FVec Ideal S64x2 .f32) (a12 : FVec Ideal S2 .f32) (a13 : FVec Ideal S64x1 .f32) (a14 : FVec Ideal S1 .f32)

/-- Under the precondition the features that the output maps read are the reference's. -/
theorem hidden_same (hp : Cert.Pre_in_range.fn a0 a1 a2 a3 a4 a5 a6 a7 a8 a9 a10 a11 a12 a13 a14 = fun _ => 1#1) :
    KernelNet.hidden a0 a1 a2 a3 a4 a5 a6 a7 a8 a9 a10 = RefNet.hidden a0 a1 a2 a3 a4 a5 a6 a7 a8 a9 a10 := by
  have hp0 := congrFun hp ix0
  rw [PreNet.fn_eq] at hp0
  simp only [andi, IntOp.andi_eq_one] at hp0
  obtain ⟨⟨⟨⟨⟨⟨⟨⟨⟨w1, w2⟩, f0⟩, f1⟩, f2⟩, f3⟩, f4⟩, f5⟩, f6⟩, f7⟩ := hp0
  obtain ⟨x1, h1⟩ := real_matrix (PreNet.finite_real _ _ _ f0)
  obtain ⟨u1, hu1⟩ := real_matrix (PreNet.finite_real _ _ _ f1)
  obtain ⟨s1, hs1⟩ := real_matrix (PreNet.finite_real _ _ _ f2)
  obtain ⟨d1, hd1⟩ := real_matrix (PreNet.finite_real _ _ _ f3)
  rw [same_of_value (PreNet.aggregate_value h1 hu1 hs1 hd1) (RefNet.aggregate_value h1 hu1 hs1 hd1)] at w2 f4
  obtain ⟨x2, h2⟩ := real_matrix (PreNet.finite_real _ _ _ f4)
  obtain ⟨u2, hu2⟩ := real_matrix (PreNet.finite_real _ _ _ f5)
  obtain ⟨s2, hs2⟩ := real_matrix (PreNet.finite_real _ _ _ f6)
  obtain ⟨d2, hd2⟩ := real_matrix (PreNet.finite_real _ _ _ f7)
  unfold KernelNet.hidden KernelNet.layer RefNet.hidden
  simp only [embed_same, act_same]
  rw [heads_same h1 hu1 hs1 hd1 w1, heads_same h2 hu2 hs2 hd2 w2]

/-! ## The output maps -/

variable (h : FVec Ideal S1024x64 .f32)

/-- The kernel's action columns are the reference's, clipped. -/
theorem column_same (i : Fin 1024) (j : Fin 2) :
    min (Ideal.ofBits .f32 0x40A00000#32) (max (Ideal.ofBits .f32 0xC0A00000#32)
      (KernelNet.output h a11 a12 a13 a14 (ix2 i ⟨j, by omega⟩))) = RefNet.clipped h a11 a12 (ix2 i j) := by
  pointwise [KernelNet.output, RefNet.clipped]
  rfl

/-- The logits are the reference's. -/
theorem logits_same : KernelNet.logits (KernelNet.output h a11 a12 a13 a14) = RefNet.logits (RefNet.clipped h a11 a12) := by
  funext i
  idx_vars i
  have hc := column_same a11 a12 a13 a14 h i0
  generalize KernelNet.output h a11 a12 a13 a14 = y at hc ⊢
  generalize RefNet.clipped h a11 a12 = z at hc ⊢
  fin_cases i1
  · pointwise [KernelNet.logits, k0_pay1, RefNet.logits]
    exact hc 0
  · pointwise [KernelNet.logits, k0_pay1, RefNet.logits]
    exact congrArg (fun x : EReal => max x (-x)) (hc 1)

/-- The values are the reference's. -/
theorem values_same : k0_pay2 (KernelNet.output h a11 a12 a13 a14) = RefNet.values h a13 a14 := by
  funext i
  idx_vars i
  pointwise [k0_pay2, KernelNet.output, RefNet.values]

end Whole

end Cert.Network

end
-- ==== Proof.Claims.lean ====
/-
  The claims: the frames of the three programs, the named constants, and that the kernel's two results are the
  reference's.
-/
module

public import proofs.«01_k».proof.Defs
public import proofs.«01_k».proof.Proof.Network
public import proofs.«01_k».proof.Proof.Gen.Kernel.Frame
public import proofs.«01_k».proof.Proof.Gen.KernelIdeal.Frame
public import Idealize.ShloMosaic.Lib.Quiescent

@[expose] public section

set_option maxRecDepth 16384

noncomputable section

namespace Cert.Claims

open Idealize.ShloMosaic Idealize.ShloMosaic.StableHlo Idealize.SL.Sem Idealize.ShloMosaic.TcCoe

/-! ## The results at one device -/

section Results

open Cert.ReferenceIdeal Cert.ReferenceIdeal.Value

variable (V : Valuation τ sig (Elt Ideal)) (a0 : FVec Ideal S1024x256 .f32) (a1 : FVec Ideal S256x64 .f32)
  (a2 : FVec Ideal S64 .f32) (a3 : FVec Ideal S64x256 .f32) (a4 a5 : FVec Ideal S4x64 .f32) (a6 : FVec Ideal S64 .f32)
  (a7 : FVec Ideal S64x256 .f32) (a8 a9 : FVec Ideal S4x64 .f32) (a10 : FVec Ideal S64 .f32)
  (a11 : FVec Ideal S64x2 .f32) (a12 : FVec Ideal S2 .f32) (a13 : FVec Ideal S64x1 .f32) (a14 : FVec Ideal S1 .f32)

/-- From the same arguments, under the precondition, the reference's logits and values are the kernel's. -/
theorem results_same
    (hp : Cert.Pre_in_range.fn a0 a1 a2 a3 a4 a5 a6 a7 a8 a9 a10 a11 a12 a13 a14 = fun _ => 1#1)
    (h0 : V (Proc.devRef .tc main_arg0) = a0)
    (h1 : V (Proc.devRef .tc main_arg1) = a1)
    (h2 : V (Proc.devRef .tc main_arg2) = a2)
    (h3 : V (Proc.devRef .tc main_arg3) = a3)
    (h4 : V (Proc.devRef .tc main_arg4) = a4)
    (h5 : V (Proc.devRef .tc main_arg5) = a5)
    (h6 : V (Proc.devRef .tc main_arg6) = a6)
    (h7 : V (Proc.devRef .tc main_arg7) = a7)
    (h8 : V (Proc.devRef .tc main_arg8) = a8)
    (h9 : V (Proc.devRef .tc main_arg9) = a9)
    (h10 : V (Proc.devRef .tc main_arg10) = a10)
    (h11 : V (Proc.devRef .tc main_arg11) = a11)
    (h12 : V (Proc.devRef .tc main_arg12) = a12)
    (h13 : V (Proc.devRef .tc main_arg13) = a13)
    (h14 : V (Proc.devRef .tc main_arg14) = a14) :
    RefNet.logits (res_main_v83 V) = Cert.KernelIdeal.Value.G15 (F := Ideal) a0 a1 a2 a3 a4 a5 a6 a7 a8 a9 a10 a11 a12 a13 a14
    ∧ RefNet.values (res_main_v78 V) (V (Proc.devRef .tc main_arg13)) (V (Proc.devRef .tc main_arg14))
      = Cert.KernelIdeal.Value.G16 (F := Ideal) a0 a1 a2 a3 a4 a5 a6 a7 a8 a9 a10 a11 a12 a13 a14 := by
  rw [RefNet.clipped_eq, RefNet.hidden_eq, h0, h1, h2, h3, h4, h5, h6, h7, h8, h9, h10, h11, h12, h13, h14, KernelNet.logits_eq, KernelNet.values_eq,
    Network.logits_same, Network.values_same, Network.hidden_same _ _ _ _ _ _ _ _ _ _ _ _ _ _ _ hp]
  exact ⟨rfl, rfl⟩

end Results

/-! ## The claims -/

/-- The kernel ends, keeps its arguments, and leaves every semaphore at zero. -/
theorem frame_kernel : Cert.quiescent_Kernel := fun m ρ _ => Cert.Kernel.Gen.frame m ρ

/-- So does the idealised kernel. -/
theorem frame_ideal : Cert.quiescent_KernelIdeal := fun m ρ _ => Cert.KernelIdeal.Gen.frame m ρ

/-- So does the idealised kernel under the precondition. -/
theorem frame_ideal_in_range : Cert.quiescent_KernelIdeal_pre_in_range := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- So does the reference under the precondition. -/
theorem frame_reference_in_range : Cert.quiescent_ReferenceIdeal_pre_in_range := fun m ρ _ =>
  frame_reference m ρ trivial

/-- The named constants are one fifth and four fifths. -/
theorem preserves : Cert.preserves_Kernel_KernelIdeal :=
  ⟨IdealRules.named_const.statement _ "rest" .f32 0x3F4CCCCD#32 ((4 / 5 : ℝ) : EReal) rfl,
    IdealRules.named_const.statement _ "slope" .f32 0x3E4CCCCD#32 ((1 / 5 : ℝ) : EReal) rfl⟩

/-- Under the precondition the idealised kernel's logits and values are the reference's. -/
theorem algebraic : Cert.algebraic_KernelIdeal_ReferenceIdeal_pre_in_range := fun m ρ m' ρ' hpre hag =>
  have hs := fun c => results_same (launchContents m' c) _ _ _ _ _ _ _ _ _ _ _ _ _ _ _ (hpre c)
    (hag c).1 (hag c).2.1 (hag c).2.2.1 (hag c).2.2.2.1
    (hag c).2.2.2.2.1 (hag c).2.2.2.2.2.1 (hag c).2.2.2.2.2.2.1 (hag c).2.2.2.2.2.2.2.1
    (hag c).2.2.2.2.2.2.2.2.1 (hag c).2.2.2.2.2.2.2.2.2.1 (hag c).2.2.2.2.2.2.2.2.2.2.1 (hag c).2.2.2.2.2.2.2.2.2.2.2.1
    (hag c).2.2.2.2.2.2.2.2.2.2.2.2.1 (hag c).2.2.2.2.2.2.2.2.2.2.2.2.2.1 (hag c).2.2.2.2.2.2.2.2.2.2.2.2.2.2
  ⟨_, _, Cert.KernelIdeal.Value.run m ρ,
    (θ_run _ _ _).mono (fun _ h c => ⟨(h c).1.trans (hs c).1, (h c).2.1.trans (hs c).2, (h c).2.2⟩)
      (Cert.ReferenceIdeal.Value.run (F := Ideal) m' ρ')⟩

end Cert.Claims

end
-- ==== Proof.lean ====
module

public import proofs.«01_k».proof.Defs
public import proofs.«01_k».proof.Proof.Claims

@[expose] public section

noncomputable section

namespace Cert.Proof

/-- Everything claimed of the kernel and of the reference. -/
theorem claim : Cert.Claim :=
  ⟨Cert.Kernel.Gen.facts, Cert.KernelIdeal.Gen.facts, Cert.ReferenceIdeal.Gen.facts, Cert.PreNet.facts,
    Cert.Claims.frame_kernel, Cert.Claims.frame_ideal, Cert.Claims.frame_ideal_in_range, Cert.Claims.frame_reference,
    Cert.Claims.frame_reference_in_range, Cert.Claims.preserves, Cert.Claims.algebraic⟩

end Cert.Proof

end
